-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelCum (m : (ℓ : Loc Cert.KernelCum.nD Cert.KernelCum.τ Cert.KernelCum.sig) → Buf (Elt Bits) ℓ) : Prop :=
  True

def Pre_KernelCumIdeal (m : (ℓ : Loc Cert.KernelCumIdeal.nD Cert.KernelCumIdeal.τ Cert.KernelCumIdeal.sig) → Buf (Elt Ideal) ℓ) : Prop :=
  True

def Pre_ReferenceCumIdeal (m : (ℓ : Loc Cert.ReferenceCumIdeal.nD Cert.ReferenceCumIdeal.τ Cert.ReferenceCumIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelCum [hKernelCum : Cert.KernelCum.Facts] : Prop :=
  ∀ (m : (ℓ : Loc Cert.KernelCum.nD Cert.KernelCum.τ Cert.KernelCum.sig) → Buf (Elt Bits) ℓ) (g : Dev Cert.KernelCum.nD → PrngReg), Pre_KernelCum m →
    θ_run (Cert.KernelCum.defs (F := Bits)) (onTc (τ := Cert.KernelCum.τ) (Cert.KernelCum.main (F := Bits))) ⟨m, fun _ => 0, g⟩ (fun r => (∀ c : Dev Cert.KernelCum.nD,
      r.2.mem ((c.tc : Thread Cert.KernelCum.nD Cert.KernelCum.τ).loc Cert.KernelCum.main_arg0) = m ((c.tc : Thread Cert.KernelCum.nD Cert.KernelCum.τ).loc Cert.KernelCum.main_arg0)
      ∧ r.2.mem ((c.tc : Thread Cert.KernelCum.nD Cert.KernelCum.τ).loc Cert.KernelCum.main_arg1) = m ((c.tc : Thread Cert.KernelCum.nD Cert.KernelCum.τ).loc Cert.KernelCum.main_arg1))
      ∧ r.2.sem = fun _ => 0)

def quiescent_KernelCumIdeal [hKernelCumIdeal : Cert.KernelCumIdeal.Facts] : Prop :=
  ∀ (m : (ℓ : Loc Cert.KernelCumIdeal.nD Cert.KernelCumIdeal.τ Cert.KernelCumIdeal.sig) → Buf (Elt Ideal) ℓ) (g : Dev Cert.KernelCumIdeal.nD → PrngReg), Pre_KernelCumIdeal m →
    θ_run (Cert.KernelCumIdeal.defs (F := Ideal)) (onTc (τ := Cert.KernelCumIdeal.τ) (Cert.KernelCumIdeal.main (F := Ideal))) ⟨m, fun _ => 0, g⟩ (fun r => (∀ c : Dev Cert.KernelCumIdeal.nD,
      r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
      ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1))
      ∧ r.2.sem = fun _ => 0)

def quiescent_ReferenceCumIdeal [hReferenceCumIdeal : Cert.ReferenceCumIdeal.Facts] : Prop :=
  ∀ (m : (ℓ : Loc Cert.ReferenceCumIdeal.nD Cert.ReferenceCumIdeal.τ Cert.ReferenceCumIdeal.sig) → Buf (Elt Ideal) ℓ) (g : Dev Cert.ReferenceCumIdeal.nD → PrngReg), Pre_ReferenceCumIdeal m →
    θ_run (Cert.ReferenceCumIdeal.defs (F := Ideal)) (onTc (τ := Cert.ReferenceCumIdeal.τ) (Cert.ReferenceCumIdeal.main (F := Ideal))) ⟨m, fun _ => 0, g⟩ (fun r => (∀ c : Dev Cert.ReferenceCumIdeal.nD,
      r.2.mem ((c.tc : Thread Cert.ReferenceCumIdeal.nD Cert.ReferenceCumIdeal.τ).loc Cert.ReferenceCumIdeal.main_arg0) = m ((c.tc : Thread Cert.ReferenceCumIdeal.nD Cert.ReferenceCumIdeal.τ).loc Cert.ReferenceCumIdeal.main_arg0)
      ∧ r.2.mem ((c.tc : Thread Cert.ReferenceCumIdeal.nD Cert.ReferenceCumIdeal.τ).loc Cert.ReferenceCumIdeal.main_arg1) = m ((c.tc : Thread Cert.ReferenceCumIdeal.nD Cert.ReferenceCumIdeal.τ).loc Cert.ReferenceCumIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v3)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v3) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v9) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)) →
    ∃ (v0 : (c : Dev Cert.KernelOutIdeal.nD) → Buf (Elt Ideal) ((c.tc : Thread Cert.KernelOutIdeal.nD Cert.KernelOutIdeal.τ).loc Cert.KernelOutIdeal.main_v13_0)) (v1 : (c : Dev Cert.KernelOutIdeal.nD) → Buf (Elt Ideal) ((c.tc : Thread Cert.KernelOutIdeal.nD Cert.KernelOutIdeal.τ).loc Cert.KernelOutIdeal.main_v13_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v13_0) = v0 c
          ∧ r.2.mem ((c.tc : Thread Cert.KernelOutIdeal.nD Cert.KernelOutIdeal.τ).loc Cert.KernelOutIdeal.main_v13_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v65) = v0 c
          ∧ r.2.mem ((c.tc : Thread Cert.ReferenceOutIdeal.nD Cert.ReferenceOutIdeal.τ).loc Cert.ReferenceOutIdeal.main_v67) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9))

def preserves_KernelIn_KernelInIdeal : Prop :=
  IdealRules.named_const.Statement Cert.KernelInIdeal.κ "q_scale" .f32 0x3E0293EE#32 (((Real.sqrt 128)⁻¹ * (Real.log 2)⁻¹ : ℝ) : EReal)

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v16_0)) (v1 : (c : Dev Cert.KernelInIdeal.nD) → Buf (Elt Ideal) ((c.tc : Thread Cert.KernelInIdeal.nD Cert.KernelInIdeal.τ).loc Cert.KernelInIdeal.main_v16_1)) (v2 : (c : Dev Cert.KernelInIdeal.nD) → Buf (Elt Ideal) ((c.tc : Thread Cert.KernelInIdeal.nD Cert.KernelInIdeal.τ).loc Cert.KernelInIdeal.main_v16_2)) (v3 : (c : Dev Cert.KernelInIdeal.nD) → Buf (Elt Ideal) ((c.tc : Thread Cert.KernelInIdeal.nD Cert.KernelInIdeal.τ).loc Cert.KernelInIdeal.main_v16_3)) (v4 : (c : Dev Cert.KernelInIdeal.nD) → Buf (Elt Ideal) ((c.tc : Thread Cert.KernelInIdeal.nD Cert.KernelInIdeal.τ).loc Cert.KernelInIdeal.main_v16_4)) (v5 : (c : Dev Cert.KernelInIdeal.nD) → Buf (Elt Ideal) ((c.tc : Thread Cert.KernelInIdeal.nD Cert.KernelInIdeal.τ).loc Cert.KernelInIdeal.main_v16_5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v16_0) = v0 c
          ∧ r.2.mem ((c.tc : Thread Cert.KernelInIdeal.nD Cert.KernelInIdeal.τ).loc Cert.KernelInIdeal.main_v16_1) = v1 c
          ∧ r.2.mem ((c.tc : Thread Cert.KernelInIdeal.nD Cert.KernelInIdeal.τ).loc Cert.KernelInIdeal.main_v16_2) = v2 c
          ∧ r.2.mem ((c.tc : Thread Cert.KernelInIdeal.nD Cert.KernelInIdeal.τ).loc Cert.KernelInIdeal.main_v16_3) = v3 c
          ∧ r.2.mem ((c.tc : Thread Cert.KernelInIdeal.nD Cert.KernelInIdeal.τ).loc Cert.KernelInIdeal.main_v16_4) = v4 c
          ∧ r.2.mem ((c.tc : Thread Cert.KernelInIdeal.nD Cert.KernelInIdeal.τ).loc Cert.KernelInIdeal.main_v16_5) = v5 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v71) = v0 c
          ∧ r.2.mem ((c.tc : Thread Cert.ReferenceInIdeal.nD Cert.ReferenceInIdeal.τ).loc Cert.ReferenceInIdeal.main_v73) = v1 c
          ∧ r.2.mem ((c.tc : Thread Cert.ReferenceInIdeal.nD Cert.ReferenceInIdeal.τ).loc Cert.ReferenceInIdeal.main_v74) = v2 c
          ∧ r.2.mem ((c.tc : Thread Cert.ReferenceInIdeal.nD Cert.ReferenceInIdeal.τ).loc Cert.ReferenceInIdeal.main_v75) = v3 c
          ∧ r.2.mem ((c.tc : Thread Cert.ReferenceInIdeal.nD Cert.ReferenceInIdeal.τ).loc Cert.ReferenceInIdeal.main_v78) = v4 c
          ∧ r.2.mem ((c.tc : Thread Cert.ReferenceInIdeal.nD Cert.ReferenceInIdeal.τ).loc Cert.ReferenceInIdeal.main_v69) = v5 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v3)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v3) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v6) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelCum_KernelCumIdeal : Prop :=
  True

def algebraic_KernelCumIdeal_ReferenceCumIdeal [hKernelCumIdeal : Cert.KernelCumIdeal.Facts] [hReferenceCumIdeal : Cert.ReferenceCumIdeal.Facts] : Prop :=
  ∀ (m : (ℓ : Loc Cert.KernelCumIdeal.nD Cert.KernelCumIdeal.τ Cert.KernelCumIdeal.sig) → Buf (Elt Ideal) ℓ) (g : Dev Cert.KernelCumIdeal.nD → PrngReg)
    (m' : (ℓ : Loc Cert.ReferenceCumIdeal.nD Cert.ReferenceCumIdeal.τ Cert.ReferenceCumIdeal.sig) → Buf (Elt Ideal) ℓ) (g' : Dev Cert.ReferenceCumIdeal.nD → PrngReg), Pre_KernelCumIdeal m →
    (∀ c : Dev Cert.KernelCumIdeal.nD,
      m' ((c.tc : Thread Cert.ReferenceCumIdeal.nD Cert.ReferenceCumIdeal.τ).loc Cert.ReferenceCumIdeal.main_arg0) = m ((c.tc : Thread Cert.KernelCumIdeal.nD Cert.KernelCumIdeal.τ).loc Cert.KernelCumIdeal.main_arg0)
      ∧ m' ((c.tc : Thread Cert.ReferenceCumIdeal.nD Cert.ReferenceCumIdeal.τ).loc Cert.ReferenceCumIdeal.main_arg1) = m ((c.tc : Thread Cert.KernelCumIdeal.nD Cert.KernelCumIdeal.τ).loc Cert.KernelCumIdeal.main_arg1)) →
    ∃ (v0 : (c : Dev Cert.KernelCumIdeal.nD) → Buf (Elt Ideal) ((c.tc : Thread Cert.KernelCumIdeal.nD Cert.KernelCumIdeal.τ).loc Cert.KernelCumIdeal.main_v9)),
      θ_run (Cert.KernelCumIdeal.defs (F := Ideal)) (onTc (τ := Cert.KernelCumIdeal.τ) (Cert.KernelCumIdeal.main (F := Ideal))) ⟨m, fun _ => 0, g⟩ (fun r => ∀ c : Dev Cert.KernelCumIdeal.nD,
          r.2.mem ((c.tc : Thread Cert.KernelCumIdeal.nD Cert.KernelCumIdeal.τ).loc Cert.KernelCumIdeal.main_v9) = v0 c
          ∧ r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
          ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1))
      ∧ θ_run (Cert.ReferenceCumIdeal.defs (F := Ideal)) (onTc (τ := Cert.ReferenceCumIdeal.τ) (Cert.ReferenceCumIdeal.main (F := Ideal))) ⟨m', fun _ => 0, g'⟩ (fun r => ∀ c : Dev Cert.ReferenceCumIdeal.nD,
          r.2.mem ((c.tc : Thread Cert.ReferenceCumIdeal.nD Cert.ReferenceCumIdeal.τ).loc Cert.ReferenceCumIdeal.main_v17) = v0 c
          ∧ r.2.mem ((c.tc : Thread Cert.ReferenceCumIdeal.nD Cert.ReferenceCumIdeal.τ).loc Cert.ReferenceCumIdeal.main_arg0) = m' ((c.tc : Thread Cert.ReferenceCumIdeal.nD Cert.ReferenceCumIdeal.τ).loc Cert.ReferenceCumIdeal.main_arg0)
          ∧ r.2.mem ((c.tc : Thread Cert.ReferenceCumIdeal.nD Cert.ReferenceCumIdeal.τ).loc Cert.ReferenceCumIdeal.main_arg1) = m' ((c.tc : Thread Cert.ReferenceCumIdeal.nD Cert.ReferenceCumIdeal.τ).loc Cert.ReferenceCumIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelMod : Cert.KernelMod.Facts) (hKernelModIdeal : Cert.KernelModIdeal.Facts) (hReferenceModIdeal : Cert.ReferenceModIdeal.Facts) (hKernelCum : Cert.KernelCum.Facts) (hKernelCumIdeal : Cert.KernelCumIdeal.Facts) (hReferenceCumIdeal : Cert.ReferenceCumIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelCum (hKernelCum := hKernelCum)
    ∧ quiescent_KernelCumIdeal (hKernelCumIdeal := hKernelCumIdeal)
    ∧ quiescent_ReferenceCumIdeal (hReferenceCumIdeal := hReferenceCumIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelMod_KernelModIdeal
    ∧ algebraic_KernelModIdeal_ReferenceModIdeal (hKernelModIdeal := hKernelModIdeal) (hReferenceModIdeal := hReferenceModIdeal)
    ∧ preserves_KernelCum_KernelCumIdeal
    ∧ algebraic_KernelCumIdeal_ReferenceCumIdeal (hKernelCumIdeal := hKernelCumIdeal) (hReferenceCumIdeal := hReferenceCumIdeal)
-- ==== Pre_finite_logits.lean ====
abbrev S16x8x2048x128 : Shape := ⟨4, ![16, 8, 2048, 128]⟩
abbrev S16x8x2048 : Shape := ⟨3, ![16, 8, 2048]⟩
abbrev S_ : Shape := ⟨0, ![]⟩

class Facts : Prop where
  bitsLt_bf16_f32 : FTy.bits .bf16 < FTy.bits .f32
  bcast_S_S16x8x2048x128 : S_.BroadcastsInDim S16x8x2048x128 (![] : Fin 0 → Fin S16x8x2048x128.rank)
  reducesTo_S16x8x2048x128_S_d0_1_2_3 : S16x8x2048x128.ReducesTo [0, 1, 2, 3] S_
  h_S_ : 0 < S_.numel
  bcast_S_S16x8x2048 : S_.BroadcastsInDim S16x8x2048 (![] : Fin 0 → Fin S16x8x2048.rank)
  reducesTo_S16x8x2048_S_d0_1_2 : S16x8x2048.ReducesTo [0, 1, 2] S_

variable [Facts]

def fn {F : FTy → Type} [FloatOps F] (main_arg0 : FVec F S16x8x2048x128 .bf16) (main_arg1 : FVec F S16x8x2048x128 .bf16) (main_arg2 : FVec F S16x8x2048x128 .bf16) (main_arg3 : FVec F S16x8x2048 .f32) : IVec S_ 1 :=
  let main_v0 : FVec F S16x8x2048x128 .f32 := (extf .f32 · bitsLt_bf16_f32) main_arg0
  let main_v1 : FVec F S16x8x2048x128 .f32 := Host.absf main_v0
  let main_cst : FVec F S_ .f32 := constant S_ .f32 0x7F800000#32
  let main_v2 : FVec F S16x8x2048x128 .f32 := broadcastInDim S16x8x2048x128 ![] bcast_S_S16x8x2048x128 main_cst
  let main_v3 : IVec S16x8x2048x128 1 := cmpf .olt main_v1 main_v2
  let main_c : IVec S_ 1 := constantI S_ 1 1#1
  let main_v4 : IVec S_ 1 := (fun x v => Host.reduce IntOp.andi x v reducesTo_S16x8x2048x128_S_d0_1_2_3 h_S_) main_v3 main_c
  let main_v5 : FVec F S16x8x2048x128 .f32 := (extf .f32 · bitsLt_bf16_f32) main_arg1
  let main_v6 : FVec F S16x8x2048x128 .f32 := Host.absf main_v5
  let main_cst_0 : FVec F S_ .f32 := constant S_ .f32 0x7F800000#32
  let main_v7 : FVec F S16x8x2048x128 .f32 := broadcastInDim S16x8x2048x128 ![] bcast_S_S16x8x2048x128 main_cst_0
  let main_v8 : IVec S16x8x2048x128 1 := cmpf .olt main_v6 main_v7
  let main_c_1 : IVec S_ 1 := constantI S_ 1 1#1
  let main_v9 : IVec S_ 1 := (fun x v => Host.reduce IntOp.andi x v reducesTo_S16x8x2048x128_S_d0_1_2_3 h_S_) main_v8 main_c_1
  let main_v10 : IVec S_ 1 := andi main_v4 main_v9
  let main_v11 : FVec F S16x8x2048 .f32 := Host.absf main_arg3
  let main_cst_2 : FVec F S_ .f32 := constant S_ .f32 0x7F800000#32
  let main_v12 : FVec F S16x8x2048 .f32 := broadcastInDim S16x8x2048 ![] bcast_S_S16x8x2048 main_cst_2
  let main_v13 : IVec S16x8x2048 1 := cmpf .olt main_v11 main_v12
  let main_c_3 : IVec S_ 1 := constantI S_ 1 1#1
  let main_v14 : IVec S_ 1 := (fun x v => Host.reduce IntOp.andi x v reducesTo_S16x8x2048_S_d0_1_2 h_S_) main_v13 main_c_3
  let main_v15 : IVec S_ 1 := andi main_v10 main_v14
  main_v15
-- ==== Kernel.lean ====
abbrev S16x8x2048x128 : Shape := ⟨4, ![16, 8, 2048, 128]⟩
abbrev S16x8x2048 : Shape := ⟨3, ![16, 8, 2048]⟩
abbrev S16x8x8x1x256 : Shape := ⟨5, ![16, 8, 8, 1, 256]⟩
abbrev S1x1x2048x128 : Shape := ⟨4, ![1, 1, 2048, 128]⟩
abbrev S1x1x8x1x256 : Shape := ⟨5, ![1, 1, 8, 1, 256]⟩
abbrev S256x256 : Shape := ⟨2, ![256, 256]⟩
abbrev S1x1x256x128 : Shape := ⟨4, ![1, 1, 256, 128]⟩
abbrev S256x128 : Shape := ⟨2, ![256, 128]⟩
abbrev S1x1x1x1x256 : Shape := ⟨5, ![1, 1, 1, 1, 256]⟩
abbrev S1x256 : Shape := ⟨2, ![1, 256]⟩
abbrev S1x1 : Shape := ⟨2, ![1, 1]⟩
abbrev S256x1 : Shape := ⟨2, ![256, 1]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S16x8x2048x128, .bf16⟩
  | .hbm, ⟨1, _⟩ => ⟨S16x8x2048x128, .bf16⟩
  | .hbm, ⟨2, _⟩ => ⟨S16x8x2048x128, .bf16⟩
  | .hbm, ⟨3, _⟩ => ⟨S16x8x2048, .f32⟩
  | .hbm, ⟨4, _⟩ => ⟨S16x8x8x1x256, .f32⟩
  | .hbm, ⟨5, _⟩ => ⟨S16x8x2048x128, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x8x1x256, .f32⟩
  | .local _ .vmem, ⟨7, _⟩ => ⟨S1x1x8x1x256, .f32⟩
  | .local _ .vmem, ⟨8, _⟩ => ⟨S1x1x2048x128, .bf16⟩
  | .local _ .vmem, ⟨9, _⟩ => ⟨S1x1x2048x128, .bf16⟩
  | _, _ => ⟨S16x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  c0_i32
def k0_mult2 : BitVec 32 :=
  let c0_i32_41 : BitVec 32 := 0#32
  let c256_i32 : BitVec 32 := 256#32
  let v60 : BitVec 32 := Scalar.muli c0_i32_41 c256_i32
  v60
def k0_off1 : Fin 4 → Nat :=
  let c0_42 : Index := 0#32
  let c0_43 : Index := 0#32
  let c0_i32_41 : BitVec 32 := 0#32
  let c256_i32 : BitVec 32 := 256#32
  let v60 : BitVec 32 := Scalar.muli c0_i32_41 c256_i32
  let v61 : BitVec 32 := v60
  let v62 : Index := Scalar.indexCast v61
  let c0_44 : Index := 0#32
  ![0, 0, v62.toNat, 0]
def k0_mult3 : BitVec 32 :=
  let c256_i32_57 : BitVec 32 := 256#32
  c256_i32_57
@[reducible] def k0_t1_loop : Scf.Loop 32 :=
  let c0_i32_89 : BitVec 32 := 0#32
  let c2_i32 : BitVec 32 := 2#32
  let v144 : BitVec 32 := Scalar.addi c0_i32_89 c2_i32
  let c1_i32_90 : BitVec 32 := 1#32
  ⟨c0_i32_89, v144, c1_i32_90⟩
def k0_mult4 (k0_t1 : Fin k0_t1_loop.trips) : BitVec 32 :=
  let c0_i32_89 : BitVec 32 := 0#32
  let c1_i32_90 : BitVec 32 := 1#32
  let arg7 : BitVec 32 := Scf.iv c0_i32_89 c1_i32_90 k0_t1
  let c256_i32_283 : BitVec 32 := 256#32
  let v442 : BitVec 32 := Scalar.muli arg7 c256_i32_283
  v442
def k0_off2 (k0_t1 : Fin k0_t1_loop.trips) : Fin 4 → Nat :=
  let c0_284 : Index := 0#32
  let c0_285 : Index := 0#32
  let c0_i32_89 : BitVec 32 := 0#32
  let c1_i32_90 : BitVec 32 := 1#32
  let arg7 : BitVec 32 := Scf.iv c0_i32_89 c1_i32_90 k0_t1
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off3 (k0_t1 : Fin k0_t1_loop.trips) : Fin 5 → Nat :=
  let c0_290 : Index := 0#32
  let c0_291 : Index := 0#32
  let c0_i32_89 : BitVec 32 := 0#32
  let c1_i32_90 : BitVec 32 := 1#32
  let arg7 : BitVec 32 := Scf.iv c0_i32_89 c1_i32_90 k0_t1
  let v450 : Index := Scalar.indexCast arg7
  let c0_292 : Index := 0#32
  let c0_293 : Index := 0#32
  ![0, 0, v450.toNat, 0, 0]
def k0_mult5 : BitVec 32 :=
  let c512_i32 : BitVec 32 := 512#32
  c512_i32
@[reducible] def k0_t2_loop : Scf.Loop 32 :=
  let c0_i32_123 : BitVec 32 := 0#32
  let c3_i32 : BitVec 32 := 3#32
  let v195 : BitVec 32 := Scalar.addi c0_i32_123 c3_i32
  let c1_i32_124 : BitVec 32 := 1#32
  ⟨c0_i32_123, v195, c1_i32_124⟩
def k0_mult6 (k0_t2 : Fin k0_t2_loop.trips) : BitVec 32 :=
  let c0_i32_123 : BitVec 32 := 0#32
  let c1_i32_124 : BitVec 32 := 1#32
  let arg7 : BitVec 32 := Scf.iv c0_i32_123 c1_i32_124 k0_t2
  let c256_i32_283 : BitVec 32 := 256#32
  let v442 : BitVec 32 := Scalar.muli arg7 c256_i32_283
  v442
def k0_off4 (k0_t2 : Fin k0_t2_loop.trips) : Fin 4 → Nat :=
  let c0_284 : Index := 0#32
  let c0_285 : Index := 0#32
  let c0_i32_123 : BitVec 32 := 0#32
  let c1_i32_124 : BitVec 32 := 1#32
  let arg7 : BitVec 32 := Scf.iv c0_i32_123 c1_i32_124 k0_t2
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off5 (k0_t2 : Fin k0_t2_loop.trips) : Fin 5 → Nat :=
  let c0_290 : Index := 0#32
  let c0_291 : Index := 0#32
  let c0_i32_123 : BitVec 32 := 0#32
  let c1_i32_124 : BitVec 32 := 1#32
  let arg7 : BitVec 32 := Scf.iv c0_i32_123 c1_i32_124 k0_t2
  let v450 : Index := Scalar.indexCast arg7
  let c0_292 : Index := 0#32
  let c0_293 : Index := 0#32
  ![0, 0, v450.toNat, 0, 0]
def k0_mult7 : BitVec 32 :=
  let c768_i32 : BitVec 32 := 768#32
  c768_i32
@[reducible] def k0_t3_loop : Scf.Loop 32 :=
  let c0_i32_157 : BitVec 32 := 0#32
  let c4_i32 : BitVec 32 := 4#32
  let v246 : BitVec 32 := Scalar.addi c0_i32_157 c4_i32
  let c1_i32_158 : BitVec 32 := 1#32
  ⟨c0_i32_157, v246, c1_i32_158⟩
def k0_mult8 (k0_t3 : Fin k0_t3_loop.trips) : BitVec 32 :=
  let c0_i32_157 : BitVec 32 := 0#32
  let c1_i32_158 : BitVec 32 := 1#32
  let arg7 : BitVec 32 := Scf.iv c0_i32_157 c1_i32_158 k0_t3
  let c256_i32_283 : BitVec 32 := 256#32
  let v442 : BitVec 32 := Scalar.muli arg7 c256_i32_283
  v442
def k0_off6 (k0_t3 : Fin k0_t3_loop.trips) : Fin 4 → Nat :=
  let c0_284 : Index := 0#32
  let c0_285 : Index := 0#32
  let c0_i32_157 : BitVec 32 := 0#32
  let c1_i32_158 : BitVec 32 := 1#32
  let arg7 : BitVec 32 := Scf.iv c0_i32_157 c1_i32_158 k0_t3
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off7 (k0_t3 : Fin k0_t3_loop.trips) : Fin 5 → Nat :=
  let c0_290 : Index := 0#32
  let c0_291 : Index := 0#32
  let c0_i32_157 : BitVec 32 := 0#32
  let c1_i32_158 : BitVec 32 := 1#32
  let arg7 : BitVec 32 := Scf.iv c0_i32_157 c1_i32_158 k0_t3
  let v450 : Index := Scalar.indexCast arg7
  let c0_292 : Index := 0#32
  let c0_293 : Index := 0#32
  ![0, 0, v450.toNat, 0, 0]
def k0_mult9 : BitVec 32 :=
  let c1024_i32 : BitVec 32 := 1024#32
  c1024_i32
@[reducible] def k0_t4_loop : Scf.Loop 32 :=
  let c0_i32_191 : BitVec 32 := 0#32
  let c5_i32 : BitVec 32 := 5#32
  let v297 : BitVec 32 := Scalar.addi c0_i32_191 c5_i32
  let c1_i32_192 : BitVec 32 := 1#32
  ⟨c0_i32_191, v297, c1_i32_192⟩
def k0_mult10 (k0_t4 : Fin k0_t4_loop.trips) : BitVec 32 :=
  let c0_i32_191 : BitVec 32 := 0#32
  let c1_i32_192 : BitVec 32 := 1#32
  let arg7 : BitVec 32 := Scf.iv c0_i32_191 c1_i32_192 k0_t4
  let c256_i32_283 : BitVec 32 := 256#32
  let v442 : BitVec 32 := Scalar.muli arg7 c256_i32_283
  v442
def k0_off8 (k0_t4 : Fin k0_t4_loop.trips) : Fin 4 → Nat :=
  let c0_284 : Index := 0#32
  let c0_285 : Index := 0#32
  let c0_i32_191 : BitVec 32 := 0#32
  let c1_i32_192 : BitVec 32 := 1#32
  let arg7 : BitVec 32 := Scf.iv c0_i32_191 c1_i32_192 k0_t4
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off9 (k0_t4 : Fin k0_t4_loop.trips) : Fin 5 → Nat :=
  let c0_290 : Index := 0#32
  let c0_291 : Index := 0#32
  let c0_i32_191 : BitVec 32 := 0#32
  let c1_i32_192 : BitVec 32 := 1#32
  let arg7 : BitVec 32 := Scf.iv c0_i32_191 c1_i32_192 k0_t4
  let v450 : Index := Scalar.indexCast arg7
  let c0_292 : Index := 0#32
  let c0_293 : Index := 0#32
  ![0, 0, v450.toNat, 0, 0]
def k0_mult11 : BitVec 32 :=
  let c1280_i32 : BitVec 32 := 1280#32
  c1280_i32
@[reducible] def k0_t5_loop : Scf.Loop 32 :=
  let c0_i32_225 : BitVec 32 := 0#32
  let c6_i32 : BitVec 32 := 6#32
  let v348 : BitVec 32 := Scalar.addi c0_i32_225 c6_i32
  let c1_i32_226 : BitVec 32 := 1#32
  ⟨c0_i32_225, v348, c1_i32_226⟩
def k0_mult12 (k0_t5 : Fin k0_t5_loop.trips) : BitVec 32 :=
  let c0_i32_225 : BitVec 32 := 0#32
  let c1_i32_226 : BitVec 32 := 1#32
  let arg7 : BitVec 32 := Scf.iv c0_i32_225 c1_i32_226 k0_t5
  let c256_i32_283 : BitVec 32 := 256#32
  let v442 : BitVec 32 := Scalar.muli arg7 c256_i32_283
  v442
def k0_off10 (k0_t5 : Fin k0_t5_loop.trips) : Fin 4 → Nat :=
  let c0_284 : Index := 0#32
  let c0_285 : Index := 0#32
  let c0_i32_225 : BitVec 32 := 0#32
  let c1_i32_226 : BitVec 32 := 1#32
  let arg7 : BitVec 32 := Scf.iv c0_i32_225 c1_i32_226 k0_t5
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off11 (k0_t5 : Fin k0_t5_loop.trips) : Fin 5 → Nat :=
  let c0_290 : Index := 0#32
  let c0_291 : Index := 0#32
  let c0_i32_225 : BitVec 32 := 0#32
  let c1_i32_226 : BitVec 32 := 1#32
  let arg7 : BitVec 32 := Scf.iv c0_i32_225 c1_i32_226 k0_t5
  let v450 : Index := Scalar.indexCast arg7
  let c0_292 : Index := 0#32
  let c0_293 : Index := 0#32
  ![0, 0, v450.toNat, 0, 0]
def k0_mult13 : BitVec 32 :=
  let c1536_i32 : BitVec 32 := 1536#32
  c1536_i32
@[reducible] def k0_t6_loop : Scf.Loop 32 :=
  let c0_i32_259 : BitVec 32 := 0#32
  let c7_i32 : BitVec 32 := 7#32
  let v399 : BitVec 32 := Scalar.addi c0_i32_259 c7_i32
  let c1_i32_260 : BitVec 32 := 1#32
  ⟨c0_i32_259, v399, c1_i32_260⟩
def k0_mult14 (k0_t6 : Fin k0_t6_loop.trips) : BitVec 32 :=
  let c0_i32_259 : BitVec 32 := 0#32
  let c1_i32_260 : BitVec 32 := 1#32
  let arg7 : BitVec 32 := Scf.iv c0_i32_259 c1_i32_260 k0_t6
  let c256_i32_283 : BitVec 32 := 256#32
  let v442 : BitVec 32 := Scalar.muli arg7 c256_i32_283
  v442
def k0_off12 (k0_t6 : Fin k0_t6_loop.trips) : Fin 4 → Nat :=
  let c0_284 : Index := 0#32
  let c0_285 : Index := 0#32
  let c0_i32_259 : BitVec 32 := 0#32
  let c1_i32_260 : BitVec 32 := 1#32
  let arg7 : BitVec 32 := Scf.iv c0_i32_259 c1_i32_260 k0_t6
  let c256_i32_283 : BitVec 32 := 256#32
  let v442 : BitVec 32 := Scalar.muli arg7 c256_i32_283
  let v443 : BitVec 32 := v442
  let v444 : Index := Scalar.indexCast v443
  let c0_286 : Index := 0#32
  ![0, 0, v444.toNat, 0]
def k0_off13 (k0_t6 : Fin k0_t6_loop.trips) : Fin 5 → Nat :=
  let c0_290 : Index := 0#32
  let c0_291 : Index := 0#32
  let c0_i32_259 : BitVec 32 := 0#32
  let c1_i32_260 : BitVec 32 := 1#32
  let arg7 : BitVec 32 := Scf.iv c0_i32_259 c1_i32_260 k0_t6
  let v450 : Index := Scalar.indexCast arg7
  let c0_292 : Index := 0#32
  let c0_293 : Index := 0#32
  ![0, 0, v450.toNat, 0, 0]
def k0_mult15 : BitVec 32 :=
  let c1792_i32 : BitVec 32 := 1792#32
  c1792_i32
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x8x2048x128 : Shape := ⟨4, ![16, 8, 2048, 128]⟩
abbrev S16x8x2048 : Shape := ⟨3, ![16, 8, 2048]⟩
abbrev S_ : Shape := ⟨0, ![]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16x8x2048x128, .bf16⟩
  | .hbm, ⟨1, _⟩ => ⟨S16x8x2048x128, .bf16⟩
  | .hbm, ⟨2, _⟩ => ⟨S16x8x2048x128, .bf16⟩
  | .hbm, ⟨3, _⟩ => ⟨S16x8x2048, .f32⟩
  | .hbm, ⟨4, _⟩ => ⟨S16x8x2048x128, .f32⟩
  | .hbm, ⟨5, _⟩ => ⟨S_, .f32⟩
  | .hbm, ⟨6, _⟩ => ⟨S_, .f32⟩
  | .hbm, ⟨7, _⟩ => ⟨S16x8x2048x128, .f32⟩
  | .hbm, ⟨8, _⟩ => ⟨S16x8x2048x128, .f32⟩
  | .hbm, ⟨9, _⟩ => ⟨S16x8x2048x128, .f32⟩
  | .hbm, ⟨10, _⟩ => ⟨S16x8x2048x128, .f32⟩
  | .hbm, ⟨11, _⟩ => ⟨S16x8x2048x2048, .f32⟩
  | .hbm, ⟨12, _⟩ => ⟨S16x8x2048x1, .f32⟩
  | .hbm, ⟨13, _⟩ => ⟨S16x8x2048x2048, .f32⟩
  | .hbm, ⟨14, _⟩ => ⟨S16x8x2048x2048, .f32⟩
  | .hbm, ⟨15, _⟩ => ⟨S16x8x1x2048, .f32⟩
  | .hbm, ⟨16, _⟩ => ⟨S16x8x2048x2048, .f32⟩
  | .hbm, ⟨17, _⟩ => ⟨S16x8x2048x2048, .f32⟩
  | .hbm, ⟨18, _⟩ => ⟨S2048, .i32⟩
  | .hbm, ⟨19, _⟩ => ⟨S2048x1, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S16x8x2048x2048, .i1⟩
  | .hbm, ⟨27, _⟩ => ⟨S16x8x2048x2048, .f32⟩
  | .hbm, ⟨28, _⟩ => ⟨S16x8x2048x2048, .f32⟩
  | .hbm, ⟨29, _⟩ => ⟨S_, .f32⟩
  | .hbm, ⟨30, _⟩ => ⟨S16x8x2048, .f32⟩
  | .hbm, ⟨31, _⟩ => ⟨S_, .f32⟩
  | .hbm, ⟨32, _⟩ => ⟨S16x8x2048, .f32⟩
  | .hbm, ⟨33, _⟩ => ⟨S16x8x2048, .f32⟩
  | .hbm, ⟨34, _⟩ => ⟨S16x8x2048x1, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S_, .f32⟩
  | .hbm, ⟨39, _⟩ => ⟨S16x8x2048, .f32⟩
  | .hbm, ⟨40, _⟩ => ⟨S16x8x2048x1, .f32⟩
  | .hbm, ⟨41, _⟩ => ⟨S16x8x2048x2048, .f32⟩
  | .hbm, ⟨42, _⟩ => ⟨S16x8x2048x2048, .f32⟩
  | .hbm, ⟨43, _⟩ => ⟨S16x8x2048x128, .f32⟩
  | .hbm, ⟨44, _⟩ => ⟨S16x8x2048x128, .bf16⟩
  | _, _ => ⟨S16x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== KernelUp.lean ====
abbrev S32768x2048 : Shape := ⟨2, ![32768, 2048]⟩
abbrev S1x2048x11264 : Shape := ⟨3, ![1, 2048, 11264]⟩
abbrev S2048x11264 : Shape := ⟨2, ![2048, 11264]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S1x2048x11264, .f32⟩
  | .hbm, ⟨2, _⟩ => ⟨S2048x11264, .f32⟩
  | .hbm, ⟨3, _⟩ => ⟨S2048x11264, .bf16⟩
  | .hbm, ⟨4, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S32768x2048 : Shape := ⟨2, ![32768, 2048]⟩
abbrev S1x2048x11264 : Shape := ⟨3, ![1, 2048, 11264]⟩
abbrev S2048x11264 : Shape := ⟨2, ![2048, 11264]⟩
abbrev S32768x11264 : Shape := ⟨2, ![32768, 11264]⟩
abbrev S32768x5632 : Shape := ⟨2, ![32768, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x11264, .f32⟩
  | .hbm, ⟨2, _⟩ => ⟨S32768x2048, .f32⟩
  | .hbm, ⟨3, _⟩ => ⟨S2048x11264, .f32⟩
  | .hbm, ⟨4, _⟩ => ⟨S32768x11264, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KernelDown.lean ====
abbrev S32768x5632 : Shape := ⟨2, ![32768, 5632]⟩
abbrev S1x5632x2048 : Shape := ⟨3, ![1, 5632, 2048]⟩
abbrev S32768x2048 : Shape := ⟨2, ![32768, 2048]⟩
abbrev S16x2048 : Shape := ⟨2, ![16, 2048]⟩
abbrev S5632x2048 : Shape := ⟨2, ![5632, 2048]⟩
abbrev S16x1x2048 : Shape := ⟨3, ![16, 1, 2048]⟩
abbrev S1024x5632 : Shape := ⟨2, ![1024, 5632]⟩
abbrev S5632x512 : Shape := ⟨2, ![5632, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x5632, .bf16⟩
  | .hbm, ⟨1, _⟩ => ⟨S1x5632x2048, .f32⟩
  | .hbm, ⟨2, _⟩ => ⟨S32768x2048, .f32⟩
  | .hbm, ⟨3, _⟩ => ⟨S16x2048, .f32⟩
  | .hbm, ⟨4, _⟩ => ⟨S5632x2048, .f32⟩
  | .hbm, ⟨5, _⟩ => ⟨S5632x2048, .bf16⟩
  | .hbm, ⟨6, _⟩ => ⟨S16x1x2048, .f32⟩
  | .hbm, ⟨7, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S32768x5632 : Shape := ⟨2, ![32768, 5632]⟩
abbrev S1x5632x2048 : Shape := ⟨3, ![1, 5632, 2048]⟩
abbrev S32768x2048 : Shape := ⟨2, ![32768, 2048]⟩
abbrev S16x2048 : Shape := ⟨2, ![16, 2048]⟩
abbrev S5632x2048 : Shape := ⟨2, ![5632, 2048]⟩
abbrev S16x2048x2048 : Shape := ⟨3, ![16, 2048, 2048]⟩
abbrev S16x1x2048 : Shape := ⟨3, ![16, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S1x5632x2048, .f32⟩
  | .hbm, ⟨2, _⟩ => ⟨S32768x2048, .f32⟩
  | .hbm, ⟨3, _⟩ => ⟨S16x2048, .f32⟩
  | .hbm, ⟨4, _⟩ => ⟨S32768x5632, .f32⟩
  | .hbm, ⟨5, _⟩ => ⟨S5632x2048, .f32⟩
  | .hbm, ⟨6, _⟩ => ⟨S32768x2048, .f32⟩
  | .hbm, ⟨7, _⟩ => ⟨S16x2048x2048, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S16x2048x2048, .f32⟩
  | .hbm, ⟨13, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelOut.lean ====
abbrev S2048x16x1024 : Shape := ⟨3, ![2048, 16, 1024]⟩
abbrev S16x8x2048x128 : Shape := ⟨4, ![16, 8, 2048, 128]⟩
abbrev S16x2048x2048 : Shape := ⟨3, ![16, 2048, 2048]⟩
abbrev S1x2048x2048 : Shape := ⟨3, ![1, 2048, 2048]⟩
abbrev S1x1024 : Shape := ⟨2, ![1, 1024]⟩
abbrev S16x2048 : Shape := ⟨2, ![16, 2048]⟩
abbrev S1x2048 : Shape := ⟨2, ![1, 2048]⟩
abbrev S2048x16384 : Shape := ⟨2, ![2048, 16384]⟩
abbrev S32768x2048 : Shape := ⟨2, ![32768, 2048]⟩
abbrev S2048x2048 : Shape := ⟨2, ![2048, 2048]⟩
abbrev S1024 : Shape := ⟨1, ![1024]⟩
abbrev S16x1x2048 : Shape := ⟨3, ![16, 1, 2048]⟩
abbrev S2048 : Shape := ⟨1, ![2048]⟩
abbrev S512x1024 : Shape := ⟨2, ![512, 1024]⟩
abbrev S1x8x512x128 : Shape := ⟨4, ![1, 8, 512, 128]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1x1x512x128 : Shape := ⟨4, ![1, 1, 512, 128]⟩
abbrev S512x128 : Shape := ⟨2, ![512, 128]⟩
abbrev S1x128 : Shape := ⟨2, ![1, 128]⟩

abbrev nBuf : Space → Nat
  | .hbm => 25
  | .vmem => 20
  | .smem => 0
  | _ => 0

abbrev bufTy : (tb : Table) → Fin (tcTables nBuf tb) → BufTy
  | .hbm, ⟨0, _⟩ => ⟨S2048x16x1024, .bf16⟩
  | .hbm, ⟨1, _⟩ => ⟨S16x8x2048x128, .bf16⟩
  | .hbm, ⟨2, _⟩ => ⟨S16x2048x2048, .f32⟩
  | .hbm, ⟨3, _⟩ => ⟨S1x2048x2048, .f32⟩
  | .hbm, ⟨4, _⟩ => ⟨S1x1024, .f32⟩
  | .hbm, ⟨5, _⟩ => ⟨S1x1024, .f32⟩
  | .hbm, ⟨6, _⟩ => ⟨S16x2048, .f32⟩
  | .hbm, ⟨7, _⟩ => ⟨S1x2048, .f32⟩
  | .hbm, ⟨8, _⟩ => ⟨S16x2048, .f32⟩
  | .hbm, ⟨9, _⟩ => ⟨S16x2048, .f32⟩
  | .hbm, ⟨10, _⟩ => ⟨S2048x16384, .bf16⟩
  | .hbm, ⟨11, _⟩ => ⟨S32768x2048, .f32⟩
  | .hbm, ⟨12, _⟩ => ⟨S2048x2048, .f32⟩
  | .hbm, ⟨13, _⟩ => ⟨S2048x2048, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16x1x2048, .f32⟩
  | .hbm, ⟨19, _⟩ => ⟨S2048, .f32⟩
  | .hbm, ⟨20, _⟩ => ⟨S1x2048, .f32⟩
  | .hbm, ⟨21, _⟩ => ⟨S16x1x2048, .f32⟩
  | .hbm, ⟨22, _⟩ => ⟨S16x1x2048, .f32⟩
  | .hbm, ⟨23, _⟩ => ⟨S32768x2048, .f32⟩
  | .hbm, ⟨24, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x1024, .f32⟩
  | .local _ .vmem, ⟨8, _⟩ => ⟨S1x1024, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | _, _ => ⟨S2048x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOutIdeal.lean ====
abbrev S2048x16x1024 : Shape := ⟨3, ![2048, 16, 1024]⟩
abbrev S16x8x2048x128 : Shape := ⟨4, ![16, 8, 2048, 128]⟩
abbrev S16x2048x2048 : Shape := ⟨3, ![16, 2048, 2048]⟩
abbrev S1x2048x2048 : Shape := ⟨3, ![1, 2048, 2048]⟩
abbrev S1x1024 : Shape := ⟨2, ![1, 1024]⟩
abbrev S16x2048 : Shape := ⟨2, ![16, 2048]⟩
abbrev S1x2048 : Shape := ⟨2, ![1, 2048]⟩
abbrev S16x2048x1024 : Shape := ⟨3, ![16, 2048, 1024]⟩
abbrev S16x2048x8x128 : Shape := ⟨4, ![16, 2048, 8, 128]⟩
abbrev S1024 : Shape := ⟨1, ![1024]⟩
abbrev S_ : Shape := ⟨0, ![]⟩
abbrev S16x2048x1 : Shape := ⟨3, ![16, 2048, 1]⟩
abbrev S1x1x1024 : Shape := ⟨3, ![1, 1, 1024]⟩
abbrev S16x1x2048 : Shape := ⟨3, ![16, 1, 2048]⟩
abbrev S2048x2048 : Shape := ⟨2, ![2048, 2048]⟩
abbrev S2048 : Shape := ⟨1, ![2048]⟩
abbrev S1x1x2048 : Shape := ⟨3, ![1, 1, 2048]⟩
abbrev S32768x2048 : Shape := ⟨2, ![32768, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2048x16x1024, .bf16⟩
  | .hbm, ⟨1, _⟩ => ⟨S16x8x2048x128, .bf16⟩
  | .hbm, ⟨2, _⟩ => ⟨S16x2048x2048, .f32⟩
  | .hbm, ⟨3, _⟩ => ⟨S1x2048x2048, .f32⟩
  | .hbm, ⟨4, _⟩ => ⟨S1x1024, .f32⟩
  | .hbm, ⟨5, _⟩ => ⟨S1x1024, .f32⟩
  | .hbm, ⟨6, _⟩ => ⟨S16x2048, .f32⟩
  | .hbm, ⟨7, _⟩ => ⟨S1x2048, .f32⟩
  | .hbm, ⟨8, _⟩ => ⟨S16x2048, .f32⟩
  | .hbm, ⟨9, _⟩ => ⟨S16x2048, .f32⟩
  | .hbm, ⟨10, _⟩ => ⟨S16x2048x1024, .bf16⟩
  | .hbm, ⟨11, _⟩ => ⟨S16x2048x8x128, .bf16⟩
  | .hbm, ⟨12, _⟩ => ⟨S16x2048x1024, .bf16⟩
  | .hbm, ⟨13, _⟩ => ⟨S1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S16x2048x1024, .bf16⟩
  | .hbm, ⟨32, _⟩ => ⟨S1024, .f32⟩
  | .hbm, ⟨33, _⟩ => ⟨S16x2048x1024, .f32⟩
  | .hbm, ⟨34, _⟩ => ⟨S16x2048x1024, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | .hbm, ⟨50, _⟩ => ⟨S16x2048x1024, .bf16⟩
  | .hbm, ⟨51, _⟩ => ⟨S16x2048x2048, .bf16⟩
  | .hbm, ⟨52, _⟩ => ⟨S16x1x2048, .f32⟩
  | .hbm, ⟨53, _⟩ => ⟨S16x2048x2048, .f32⟩
  | .hbm, ⟨54, _⟩ => ⟨S2048x2048, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S2048, .f32⟩
  | .hbm, ⟨60, _⟩ => ⟨S16x2048x2048, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1, .f32⟩
  | .hbm, ⟨71, _⟩ => ⟨S16x2048x2048, .f32⟩
  | .hbm, ⟨72, _⟩ => ⟨S16x2048x2048, .f32⟩
  | .hbm, ⟨73, _⟩ => ⟨S1x1x2048, .f32⟩
  | .hbm, ⟨74, _⟩ => ⟨S16x2048x2048, .f32⟩
  | .hbm, ⟨75, _⟩ => ⟨S16x2048x2048, .f32⟩
  | .hbm, ⟨76, _⟩ => ⟨S16x1x2048, .f32⟩
  | .hbm, ⟨77, _⟩ => ⟨S_, .f32⟩
  | .hbm, ⟨78, _⟩ => ⟨S16x1x2048, .f32⟩
  | .hbm, ⟨79, _⟩ => ⟨S16x1x2048, .f32⟩
  | .hbm, ⟨80, _⟩ => ⟨S16x2048x2048, .f32⟩
  | .hbm, ⟨81, _⟩ => ⟨S16x2048x2048, .f32⟩
  | .hbm, ⟨82, _⟩ => ⟨S16x1x2048, .f32⟩
  | .hbm, ⟨83, _⟩ => ⟨S16x2048x2048, .f32⟩
  | .hbm, ⟨84, _⟩ => ⟨S16x2048x2048, .f32⟩
  | .hbm, ⟨85, _⟩ => ⟨S32768x2048, .f32⟩
  | .hbm, ⟨86, _⟩ => ⟨S32768x2048, .f32⟩
  | .hbm, ⟨87, _⟩ => ⟨S32768x2048, .bf16⟩
  | _, _ => ⟨S2048x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== KernelIn.lean ====
abbrev S16x2048x2048 : Shape := ⟨3, ![16, 2048, 2048]⟩
abbrev S1x2048 : Shape := ⟨2, ![1, 2048]⟩
abbrev S16x2048 : Shape := ⟨2, ![16, 2048]⟩
abbrev S1x2048x5128 : Shape := ⟨3, ![1, 2048, 5128]⟩
abbrev S1x128 : Shape := ⟨2, ![1, 128]⟩
abbrev S2048x5128 : Shape := ⟨2, ![2048, 5128]⟩
abbrev S2048x5120 : Shape := ⟨2, ![2048, 5120]⟩
abbrev S2048x8 : Shape := ⟨2, ![2048, 8]⟩
abbrev S_ : Shape := ⟨0, ![]⟩
abbrev S2048x128 : Shape := ⟨2, ![2048, 128]⟩
abbrev S32768x2048 : Shape := ⟨2, ![32768, 2048]⟩
abbrev S2048 : Shape := ⟨1, ![2048]⟩
abbrev S16x1x2048 : Shape := ⟨3, ![16, 1, 2048]⟩
abbrev S128 : Shape := ⟨1, ![128]⟩
abbrev S2048x16384 : Shape := ⟨2, ![2048, 16384]⟩
abbrev S16x8x2048x128 : Shape := ⟨4, ![16, 8, 2048, 128]⟩
abbrev S32768x128 : Shape := ⟨2, ![32768, 128]⟩
abbrev S512x2048 : Shape := ⟨2, ![512, 2048]⟩
abbrev S1x1x2048 : Shape := ⟨3, ![1, 1, 2048]⟩
abbrev S512x1024 : Shape := ⟨2, ![512, 1024]⟩
abbrev S1x8x512x128 : Shape := ⟨4, ![1, 8, 512, 128]⟩
abbrev S512x128 : Shape := ⟨2, ![512, 128]⟩
abbrev S512 : Shape := ⟨1, ![512]⟩
abbrev S512x1 : Shape := ⟨2, ![512, 1]⟩
abbrev S2048x1024 : Shape := ⟨2, ![2048, 1024]⟩
abbrev S1x1x512x128 : Shape := ⟨4, ![1, 1, 512, 128]⟩

abbrev nBuf : Space → Nat
  | .hbm => 31
  | .vmem => 23
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S1x2048x5128, .f32⟩
  | .hbm, ⟨5, _⟩ => ⟨S1x128, .f32⟩
  | .hbm, ⟨6, _⟩ => ⟨S1x128, .f32⟩
  | .hbm, ⟨7, _⟩ => ⟨S2048x5128, .f32⟩
  | .hbm, ⟨8, _⟩ => ⟨S2048x5120, .f32⟩
  | .hbm, ⟨9, _⟩ => ⟨S2048x5120, .bf16⟩
  | .hbm, ⟨10, _⟩ => ⟨S2048x5128, .f32⟩
  | .hbm, ⟨11, _⟩ => ⟨S2048x8, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S32768x2048, .f32⟩
  | .hbm, ⟨17, _⟩ => ⟨S2048, .f32⟩
  | .hbm, ⟨18, _⟩ => ⟨S1x2048, .f32⟩
  | .hbm, ⟨19, _⟩ => ⟨S16x1x2048, .f32⟩
  | .hbm, ⟨20, _⟩ => ⟨S16x1x2048, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S2048x16384, .f32⟩
  | .hbm, ⟨26, _⟩ => ⟨S2048x16384, .f32⟩
  | .hbm, ⟨27, _⟩ => ⟨S16x8x2048x128, .bf16⟩
  | .hbm, ⟨28, _⟩ => ⟨S16x8x2048x128, .bf16⟩
  | .hbm, ⟨29, _⟩ => ⟨S16x8x2048x128, .bf16⟩
  | .hbm, ⟨30, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x5120, .bf16⟩
  | .local _ .vmem, ⟨8, _⟩ => ⟨S2048x128, .bf16⟩
  | .local _ .vmem, ⟨9, _⟩ => ⟨S1x128, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x8x512x128, .bf16⟩
  | .local _ .vmem, ⟨21, _⟩ => ⟨S512x128, .f32⟩
  | .local _ .vmem, ⟨22, _⟩ => ⟨S512x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelInIdeal.lean ====
variable {F : FTy → Type} [FloatOps F] [Named F]
def κ : String → Option EReal := fun
  | "q_scale" => some (((Real.sqrt 128)⁻¹ * (Real.log 2)⁻¹ : ℝ) : EReal)
  | _ => none
-- ==== ReferenceInIdeal.lean ====
abbrev S16x2048x2048 : Shape := ⟨3, ![16, 2048, 2048]⟩
abbrev S1x2048 : Shape := ⟨2, ![1, 2048]⟩
abbrev S16x2048 : Shape := ⟨2, ![16, 2048]⟩
abbrev S1x2048x5128 : Shape := ⟨3, ![1, 2048, 5128]⟩
abbrev S1x128 : Shape := ⟨2, ![1, 128]⟩
abbrev S2048 : Shape := ⟨1, ![2048]⟩
abbrev S_ : Shape := ⟨0, ![]⟩
abbrev S16x2048x1 : Shape := ⟨3, ![16, 2048, 1]⟩
abbrev S1x1x2048 : Shape := ⟨3, ![1, 1, 2048]⟩
abbrev S16x1x2048 : Shape := ⟨3, ![16, 1, 2048]⟩
abbrev S2048x5128 : Shape := ⟨2, ![2048, 5128]⟩
abbrev S16x2048x5128 : Shape := ⟨3, ![16, 2048, 5128]⟩
abbrev S16x2048x1024 : Shape := ⟨3, ![16, 2048, 1024]⟩
abbrev S16x2048x8 : Shape := ⟨3, ![16, 2048, 8]⟩
abbrev S16x2048x8x128 : Shape := ⟨4, ![16, 2048, 8, 128]⟩
abbrev S16x8x2048x128 : Shape := ⟨4, ![16, 8, 2048, 128]⟩
abbrev S128 : Shape := ⟨1, ![128]⟩
abbrev S16x8x2048 : Shape := ⟨3, ![16, 8, 2048]⟩
abbrev S16x8x2048x1 : Shape := ⟨4, ![16, 8, 2048, 1]⟩
abbrev S1x1x1x128 : Shape := ⟨4, ![1, 1, 1, 128]⟩
abbrev S32768x8 : Shape := ⟨2, ![32768, 8]⟩
abbrev S32768x128 : Shape := ⟨2, ![32768, 128]⟩
abbrev S2048x16x1024 : Shape := ⟨3, ![2048, 16, 1024]⟩
abbrev S2048x16384 : Shape := ⟨2, ![2048, 16384]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x2048, .f32⟩
  | .hbm, ⟨3, _⟩ => ⟨S16x2048, .f32⟩
  | .hbm, ⟨4, _⟩ => ⟨S1x2048x5128, .f32⟩
  | .hbm, ⟨5, _⟩ => ⟨S1x128, .f32⟩
  | .hbm, ⟨6, _⟩ => ⟨S1x128, .f32⟩
  | .hbm, ⟨7, _⟩ => ⟨S2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S16x1x2048, .f32⟩
  | .hbm, ⟨25, _⟩ => ⟨S_, .f32⟩
  | .hbm, ⟨26, _⟩ => ⟨S16x1x2048, .f32⟩
  | .hbm, ⟨27, _⟩ => ⟨S16x1x2048, .f32⟩
  | .hbm, ⟨28, _⟩ => ⟨S16x2048x2048, .f32⟩
  | .hbm, ⟨29, _⟩ => ⟨S16x2048x2048, .f32⟩
  | .hbm, ⟨30, _⟩ => ⟨S16x1x2048, .f32⟩
  | .hbm, ⟨31, _⟩ => ⟨S16x2048x2048, .f32⟩
  | .hbm, ⟨32, _⟩ => ⟨S16x2048x2048, .f32⟩
  | .hbm, ⟨33, _⟩ => ⟨S2048x5128, .f32⟩
  | .hbm, ⟨34, _⟩ => ⟨S16x2048x5128, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x8, .f32⟩
  | .hbm, ⟨41, _⟩ => ⟨S16x2048x8x128, .f32⟩
  | .hbm, ⟨42, _⟩ => ⟨S16x8x2048x128, .f32⟩
  | .hbm, ⟨43, _⟩ => ⟨S128, .f32⟩
  | .hbm, ⟨44, _⟩ => ⟨S16x8x2048x128, .f32⟩
  | .hbm, ⟨45, _⟩ => ⟨S_, .f32⟩
  | .hbm, ⟨46, _⟩ => ⟨S16x8x2048, .f32⟩
  | .hbm, ⟨47, _⟩ => ⟨S16x8x2048x1, .f32⟩
  | .hbm, ⟨48, _⟩ => ⟨S_, .f32⟩
  | .hbm, ⟨49, _⟩ => ⟨S16x8x2048x1, .f32⟩
  | .hbm, ⟨50, _⟩ => ⟨S16x8x2048x1, .f32⟩
  | .hbm, ⟨51, _⟩ => ⟨S_, .f32⟩
  | .hbm, ⟨52, _⟩ => ⟨S16x8x2048x1, .f32⟩
  | .hbm, ⟨53, _⟩ => ⟨S16x8x2048x1, .f32⟩
  | .hbm, ⟨54, _⟩ => ⟨S16x8x2048x1, .f32⟩
  | .hbm, ⟨55, _⟩ => ⟨S16x8x2048x128, .f32⟩
  | .hbm, ⟨56, _⟩ => ⟨S16x8x2048x128, .f32⟩
  | .hbm, ⟨57, _⟩ => ⟨S1x1x1x128, .f32⟩
  | .hbm, ⟨58, _⟩ => ⟨S16x8x2048x128, .f32⟩
  | .hbm, ⟨59, _⟩ => ⟨S16x8x2048x128, .f32⟩
  | .hbm, ⟨60, _⟩ => ⟨S_, .f32⟩
  | .hbm, ⟨61, _⟩ => ⟨S_, .f32⟩
  | .hbm, ⟨62, _⟩ => ⟨S16x8x2048x128, .f32⟩
  | .hbm, ⟨63, _⟩ => ⟨S16x8x2048x128, .f32⟩
  | .hbm, ⟨64, _⟩ => ⟨S_, .f32⟩
  | .hbm, ⟨65, _⟩ => ⟨S_, .f32⟩
  | .hbm, ⟨66, _⟩ => ⟨S16x8x2048x128, .f32⟩
  | .hbm, ⟨67, _⟩ => ⟨S16x8x2048x128, .f32⟩
  | .hbm, ⟨68, _⟩ => ⟨S16x2048x8x128, .f32⟩
  | .hbm, ⟨69, _⟩ => ⟨S16x8x2048x128, .f32⟩
  | .hbm, ⟨70, _⟩ => ⟨S128, .f32⟩
  | .hbm, ⟨71, _⟩ => ⟨S16x8x2048x128, .f32⟩
  | .hbm, ⟨72, _⟩ => ⟨S_, .f32⟩
  | .hbm, ⟨73, _⟩ => ⟨S16x8x2048, .f32⟩
  | .hbm, ⟨74, _⟩ => ⟨S16x8x2048x1, .f32⟩
  | .hbm, ⟨75, _⟩ => ⟨S_, .f32⟩
  | .hbm, ⟨76, _⟩ => ⟨S16x8x2048x1, .f32⟩
  | .hbm, ⟨77, _⟩ => ⟨S16x8x2048x1, .f32⟩
  | .hbm, ⟨78, _⟩ => ⟨S_, .f32⟩
  | .hbm, ⟨79, _⟩ => ⟨S16x8x2048x1, .f32⟩
  | .hbm, ⟨80, _⟩ => ⟨S16x8x2048x1, .f32⟩
  | .hbm, ⟨81, _⟩ => ⟨S16x8x2048x1, .f32⟩
  | .hbm, ⟨82, _⟩ => ⟨S16x8x2048x128, .f32⟩
  | .hbm, ⟨83, _⟩ => ⟨S16x8x2048x128, .f32⟩
  | .hbm, ⟨84, _⟩ => ⟨S1x1x1x128, .f32⟩
  | .hbm, ⟨85, _⟩ => ⟨S16x8x2048x128, .f32⟩
  | .hbm, ⟨86, _⟩ => ⟨S16x8x2048x128, .f32⟩
  | .hbm, ⟨87, _⟩ => ⟨S32768x8, .f32⟩
  | .hbm, ⟨88, _⟩ => ⟨S_, .i32⟩
  | .hbm, ⟨89, _⟩ => ⟨S_, .f32⟩
  | .hbm, ⟨90, _⟩ => ⟨S32768x128, .f32⟩
  | .hbm, ⟨91, _⟩ => ⟨S2048x16x1024, .f32⟩
  | .hbm, ⟨92, _⟩ => ⟨S2048x16384, .f32⟩
  | .hbm, ⟨93, _⟩ => ⟨S2048x16x1024, .f32⟩
  | .hbm, ⟨94, _⟩ => ⟨S2048x16384, .f32⟩
  | .hbm, ⟨95, _⟩ => ⟨S16x8x2048x128, .bf16⟩
  | .hbm, ⟨96, _⟩ => ⟨S16x8x2048x128, .bf16⟩
  | .hbm, ⟨97, _⟩ => ⟨S16x2048x8x128, .f32⟩
  | .hbm, ⟨98, _⟩ => ⟨S16x8x2048x128, .f32⟩
  | .hbm, ⟨99, _⟩ => ⟨S16x8x2048x128, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c : Ref sig .tc := ⟨.hbm, 88, rfl⟩
abbrev main_call0_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== KernelMod.lean ====
abbrev S16x2048 : Shape := ⟨2, ![16, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S16x2048 : Shape := ⟨2, ![16, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S16x12288 : Shape := ⟨2, ![16, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048x12288, .f32⟩
  | .hbm, ⟨2, _⟩ => ⟨S1x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2048x12288, .f32⟩
  | .hbm, ⟨13, _⟩ => ⟨S16x12288, .f32⟩
  | .hbm, ⟨14, _⟩ => ⟨S12288, .f32⟩
  | .hbm, ⟨15, _⟩ => ⟨S1x12288, .f32⟩
  | .hbm, ⟨16, _⟩ => ⟨S16x12288, .f32⟩
  | .hbm, ⟨17, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== KernelCum.lean ====
abbrev S32768x128 : Shape := ⟨2, ![32768, 128]⟩
abbrev S1x8 : Shape := ⟨2, ![1, 8]⟩
abbrev S32768x8 : Shape := ⟨2, ![32768, 8]⟩
abbrev S16x2048x8 : Shape := ⟨3, ![16, 2048, 8]⟩
abbrev S16x8x2048 : Shape := ⟨3, ![16, 8, 2048]⟩
abbrev S128x2048 : Shape := ⟨2, ![128, 2048]⟩
abbrev S8 : Shape := ⟨1, ![8]⟩
abbrev S16x8 : Shape := ⟨2, ![16, 8]⟩
abbrev S128 : Shape := ⟨1, ![128]⟩
abbrev S128x1 : Shape := ⟨2, ![128, 1]⟩

abbrev nBuf : Space → Nat
  | .hbm => 12
  | .vmem => 3
  | .smem => 0
  | _ => 0

abbrev bufTy : (tb : Table) → Fin (tcTables nBuf tb) → BufTy
  | .hbm, ⟨0, _⟩ => ⟨S32768x128, .f32⟩
  | .hbm, ⟨1, _⟩ => ⟨S1x8, .f32⟩
  | .hbm, ⟨2, _⟩ => ⟨S32768x8, .f32⟩
  | .hbm, ⟨3, _⟩ => ⟨S16x2048x8, .f32⟩
  | .hbm, ⟨4, _⟩ => ⟨S16x8x2048, .f32⟩
  | .hbm, ⟨5, _⟩ => ⟨S128x2048, .f32⟩
  | .hbm, ⟨6, _⟩ => ⟨S8, .f32⟩
  | .hbm, ⟨7, _⟩ => ⟨S1x8, .f32⟩
  | .hbm, ⟨8, _⟩ => ⟨S16x8, .f32⟩
  | .hbm, ⟨9, _⟩ => ⟨S128, .f32⟩
  | .hbm, ⟨10, _⟩ => ⟨S128x1, .f32⟩
  | .hbm, ⟨11, _⟩ => ⟨S128x2048, .f32⟩
  | .local _ .vmem, ⟨0, _⟩ => ⟨S128x2048, .f32⟩
  | .local _ .vmem, ⟨1, _⟩ => ⟨S128x1, .f32⟩
  | .local _ .vmem, ⟨2, _⟩ => ⟨S128x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceCumIdeal.lean ====
abbrev S32768x128 : Shape := ⟨2, ![32768, 128]⟩
abbrev S1x8 : Shape := ⟨2, ![1, 8]⟩
abbrev S32768x8 : Shape := ⟨2, ![32768, 8]⟩
abbrev S16x2048x8 : Shape := ⟨3, ![16, 2048, 8]⟩
abbrev S8 : Shape := ⟨1, ![8]⟩
abbrev S1x1x8 : Shape := ⟨3, ![1, 1, 8]⟩
abbrev S_ : Shape := ⟨0, ![]⟩
abbrev S16x8x2048 : Shape := ⟨3, ![16, 8, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x1x2048 : Shape := ⟨4, ![16, 8, 1, 2048]⟩
abbrev S16x8x2048x2048 : Shape := ⟨4, ![16, 8, 2048, 2048]⟩
abbrev S128x2048 : Shape := ⟨2, ![128, 2048]⟩

abbrev nBuf : Space → Nat
  | .hbm => 41
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S1x8, .f32⟩
  | .hbm, ⟨2, _⟩ => ⟨S32768x8, .f32⟩
  | .hbm, ⟨3, _⟩ => ⟨S16x2048x8, .f32⟩
  | .hbm, ⟨4, _⟩ => ⟨S8, .f32⟩
  | .hbm, ⟨5, _⟩ => ⟨S1x1x8, .f32⟩
  | .hbm, ⟨6, _⟩ => ⟨S16x2048x8, .f32⟩
  | .hbm, ⟨7, _⟩ => ⟨S16x2048x8, .f32⟩
  | .hbm, ⟨8, _⟩ => ⟨S16x2048x8, .f32⟩
  | .hbm, ⟨9, _⟩ => ⟨S_, .f32⟩
  | .hbm, ⟨10, _⟩ => ⟨S16x2048x8, .f32⟩
  | .hbm, ⟨11, _⟩ => ⟨S16x2048x8, .f32⟩
  | .hbm, ⟨12, _⟩ => ⟨S16x2048x8, .f32⟩
  | .hbm, ⟨13, _⟩ => ⟨S16x2048x8, .f32⟩
  | .hbm, ⟨14, _⟩ => ⟨S16x2048x8, .i1⟩
  | .hbm, ⟨15, _⟩ => ⟨S16x2048x8, .f32⟩
  | .hbm, ⟨16, _⟩ => ⟨S16x2048x8, .f32⟩
  | .hbm, ⟨17, _⟩ => ⟨S16x2048x8, .f32⟩
  | .hbm, ⟨18, _⟩ => ⟨S16x2048x8, .f32⟩
  | .hbm, ⟨19, _⟩ => ⟨S16x2048x8, .f32⟩
  | .hbm, ⟨20, _⟩ => ⟨S16x2048x8, .f32⟩
  | .hbm, ⟨21, _⟩ => ⟨S16x2048x8, .f32⟩
  | .hbm, ⟨22, _⟩ => ⟨S16x2048x8, .f32⟩
  | .hbm, ⟨23, _⟩ => ⟨S16x2048x8, .f32⟩
  | .hbm, ⟨24, _⟩ => ⟨S16x8x2048, .f32⟩
  | .hbm, ⟨25, _⟩ => ⟨S2048, .i32⟩
  | .hbm, ⟨26, _⟩ => ⟨S2048x1, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S16x8x1x2048, .f32⟩
  | .hbm, ⟨32, _⟩ => ⟨S_, .f32⟩
  | .hbm, ⟨33, _⟩ => ⟨S_, .f32⟩
  | .hbm, ⟨34, _⟩ => ⟨S16x8x2048x2048, .i1⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S_, .f32⟩
  | .hbm, ⟨39, _⟩ => ⟨S16x8x2048, .f32⟩
  | .hbm, ⟨40, _⟩ => ⟨S128x2048, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Proof.Attn.Online.lean ====
/- The softmax-weighted sum taken block by block, over the extended reals. Scores `z s` are real, the values `v s`
   any extended reals. A carried triple `(m, l, a)` holds a reference score, the sum of the weights `2 ^ (z s - m)` and the
   sum of the weighted values over the keys read so far; one block of keys updates it; the quotient `a / l` is the
   softmax-weighted sum, whatever the reference score is. -/
module

public import Idealize.ShloMosaic.PureOps.Ideal
public import Mathlib.Analysis.SpecialFunctions.Pow.Real
public import Mathlib.Algebra.BigOperators.Intervals

@[expose] public section

noncomputable section

namespace Cert.Attn

open Idealize.ShloMosaic

variable {ι : Type*}

/-- A finite sum of reals, read as an extended real. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum of any extended reals. -/
theorem coe_mul_sum {a : ℝ} (ha : 0 ≤ a) (s : Finset ι) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (by exact_mod_cast ha) (EReal.coe_ne_top a), ih]

/-- The weight of key `s` against the reference score `M`. -/
def weight (z : ℕ → ℝ) (M : ℝ) (s : ℕ) : ℝ := (2 : ℝ) ^ (z s - M)

theorem weight_pos (z : ℕ → ℝ) (M : ℝ) (s : ℕ) : 0 < weight z M s := Real.rpow_pos_of_pos two_pos _

/-- A change of the reference score multiplies every weight by one factor. -/
theorem weight_change (z : ℕ → ℝ) (M M' : ℝ) (s : ℕ) : (2 : ℝ) ^ (M - M') * weight z M s = weight z M' s := by
  unfold weight
  rw [← Real.rpow_add two_pos]
  congr 1; ring

/-- The softmax-weighted sum of the first `n` values. -/
def soft (z : ℕ → ℝ) (v : ℕ → EReal) (n : ℕ) : EReal :=
  ∑ s ∈ Finset.range n, ((weight z 0 s / ∑ i ∈ Finset.range n, weight z 0 i : ℝ) : EReal) * v s

/-- What the triple holds after the first `n` keys. -/
def Holds (z : ℕ → ℝ) (v : ℕ → EReal) (n : ℕ) (m l a : EReal) : Prop :=
  (n = 0 ∧ m = ⊥ ∧ l = 0 ∧ a = 0) ∨
    ∃ M : ℝ, m = (M : EReal) ∧ l = ((∑ s ∈ Finset.range n, weight z M s : ℝ) : EReal)
      ∧ a = ∑ s ∈ Finset.range n, (weight z M s : EReal) * v s

theorem holds_start (z : ℕ → ℝ) (v : ℕ → EReal) : Holds z v 0 ⊥ 0 0 := .inl ⟨rfl, rfl, rfl, rfl⟩

/-- A maximum of finitely many reals and `⊥`, of which one is real, is real. -/
theorem exists_fold_max {κ : Type*} (s : Finset κ) (f : κ → EReal) (h : ∀ k ∈ s, f k ≠ ⊤) (m : EReal) (hm : m ≠ ⊤)
    (hr : ∃ k ∈ s, f k ≠ ⊥) : ∃ M : ℝ, max m (s.fold max ⊥ f) = (M : EReal) := by
  classical
  have htop : s.fold max ⊥ f ≠ ⊤ := by
    have : s.fold max ⊥ f < ⊤ := Finset.fold_max_lt _ |>.2 ⟨bot_lt_top, fun k hk => lt_top_iff_ne_top.2 (h k hk)⟩
    exact this.ne
  have hbot : s.fold max ⊥ f ≠ ⊥ := by
    obtain ⟨k, hk, hfk⟩ := hr
    have : ⊥ < s.fold max ⊥ f := Finset.lt_fold_max _ |>.2 (.inr ⟨k, hk, bot_lt_iff_ne_bot.2 hfk⟩)
    exact this.ne'
  have ht : max m (s.fold max ⊥ f) ≠ ⊤ := by
    rcases max_choice m (s.fold max ⊥ f) with h' | h' <;> rw [h'] <;> assumption
  have hb : max m (s.fold max ⊥ f) ≠ ⊥ :=
    (lt_of_lt_of_le (bot_lt_iff_ne_bot.2 hbot) (le_max_right _ _)).ne'
  exact ⟨_, (EReal.coe_toReal ht hb).symm⟩

/-- A sum over a block of which only the first `c` places count. -/
theorem sum_block {M : Type*} [AddCommMonoid M] {b c : ℕ} (hc : c ≤ b) (g : ℕ → M) :
    ∑ j : Fin b, (if j.val < c then g j.val else 0) = ∑ j ∈ Finset.range c, g j := by
  rw [Fin.sum_univ_eq_sum_range (fun j => if j < c then g j else 0) b, ← Finset.sum_filter]
  congr 1
  ext j; simp only [Finset.mem_filter, Finset.mem_range]; omega

/-- One block: `b` places, of which the first `c` are keys `n, …, n + c - 1` and the others are masked. -/
theorem holds_step {z : ℕ → ℝ} {v : ℕ → EReal} {n : ℕ} {m l a : EReal} (h : Holds z v n m l a) {b c : ℕ} (hc : c ≤ b)
    (h0 : 0 < c) (x y : Fin b → EReal) (hx : ∀ j, x j = if j.val < c then ((z (n + j.val) : ℝ) : EReal) else ⊥)
    (hy : ∀ j : Fin b, j.val < c → y j = v (n + j.val)) {m' : EReal} (hm' : m' = max m (Finset.univ.fold max ⊥ x)) :
    Holds z v (n + c) m' (Ideal.exp2 (m - m') * l + ∑ j, Ideal.exp2 (x j - m'))
      (Ideal.exp2 (m - m') * a + ∑ j, Ideal.exp2 (x j - m') * y j) := by
  have hmt : m ≠ ⊤ := by
    rcases h with ⟨-, h, -⟩ | ⟨M, h, -⟩ <;> rw [h]
    · exact bot_ne_top
    · exact EReal.coe_ne_top M
  obtain ⟨M', hM'⟩ : ∃ M : ℝ, m' = (M : EReal) := by
    rw [hm']
    refine exists_fold_max _ _ (fun j _ => ?_) _ hmt ⟨⟨0, by omega⟩, Finset.mem_univ _, ?_⟩
    · rw [hx]; split
      · exact EReal.coe_ne_top _
      · exact bot_ne_top
    · rw [hx, if_pos h0]; exact EReal.coe_ne_bot _
  have hp : ∀ j, Ideal.exp2 (x j - m') = if j.val < c then ((weight z M' (n + j.val) : ℝ) : EReal) else 0 := by
    intro j
    rw [hx, hM']
    split
    · rw [← EReal.coe_sub, Ideal.exp2_coe]; rfl
    · rw [EReal.bot_sub, Ideal.exp2_bot]
  have hl : ∑ j, Ideal.exp2 (x j - m') = ((∑ j ∈ Finset.range c, weight z M' (n + j) : ℝ) : EReal) := by
    rw [Finset.sum_congr rfl fun j _ => hp j, coe_sum,
      sum_block hc fun j => ((weight z M' (n + j) : ℝ) : EReal)]
  have ha : ∑ j, Ideal.exp2 (x j - m') * y j = ∑ j ∈ Finset.range c, (weight z M' (n + j) : EReal) * v (n + j) := by
    rw [← sum_block hc fun j => (weight z M' (n + j) : EReal) * v (n + j)]
    refine Finset.sum_congr rfl fun j _ => ?_
    rw [hp j]
    split
    · rename_i hj; rw [hy j hj]
    · rw [zero_mul]
  rw [hl, ha]
  refine .inr ⟨M', hM', ?_, ?_⟩
  · rcases h with ⟨rfl, hm, hl0, -⟩ | ⟨M, hm, hl0, -⟩
    · rw [hl0, mul_zero, zero_add]; simp only [Nat.zero_add]
    · rw [hm, hM', ← EReal.coe_sub, Ideal.exp2_coe, hl0, ← EReal.coe_mul, ← EReal.coe_add, Finset.sum_range_add,
        Finset.mul_sum]
      congr 2
      exact Finset.sum_congr rfl fun s _ => weight_change z M M' s
  · rcases h with ⟨rfl, hm, -, ha0⟩ | ⟨M, hm, -, ha0⟩
    · rw [ha0, mul_zero, zero_add]; simp only [Nat.zero_add]
    · rw [hm, hM', ← EReal.coe_sub, Ideal.exp2_coe, ha0, Finset.sum_range_add,
        coe_mul_sum (a := Real.rpow 2 (M - M')) (Real.rpow_nonneg two_pos.le _)]
      congr 1
      refine Finset.sum_congr rfl fun s _ => ?_
      rw [← mul_assoc, ← EReal.coe_mul]
      congr 2
      exact weight_change z M M' s

/-- A quotient of weights does not depend on the reference score. -/
theorem weight_quot (z : ℕ → ℝ) (M : ℝ) (n s : ℕ) :
    weight z M s * (1 / ∑ i ∈ Finset.range n, weight z M i) = weight z 0 s / ∑ i ∈ Finset.range n, weight z 0 i := by
  rw [← weight_change z 0 M s, Finset.sum_congr rfl fun i _ => (weight_change z 0 M i).symm, ← Finset.mul_sum]
  have h : (2 : ℝ) ^ (0 - M) ≠ 0 := (Real.rpow_pos_of_pos two_pos _).ne'
  field_simp

theorem sum_weight_ne {z : ℕ → ℝ} {M : ℝ} {n : ℕ} (hn : 0 < n) : ∑ i ∈ Finset.range n, weight z M i ≠ 0 :=
  (Finset.sum_pos (fun i _ => weight_pos z M i) ⟨0, Finset.mem_range.2 hn⟩).ne'

/-- The end of the sweep: the quotient of the two sums. -/
theorem holds_end {z : ℕ → ℝ} {v : ℕ → EReal} {n : ℕ} (hn : 0 < n) {m l a : EReal} (h : Holds z v n m l a) :
    Ideal.div a l = soft z v n := by
  rcases h with ⟨h0, -⟩ | ⟨M, -, hl, ha⟩
  · omega
  · rw [hl, ha, Ideal.div_coe (sum_weight_ne hn), mul_comm,
      coe_mul_sum (one_div_nonneg.2 (Finset.sum_nonneg fun i _ => (weight_pos z M i).le))]
    refine Finset.sum_congr rfl fun s _ => ?_
    rw [← mul_assoc, ← EReal.coe_mul, mul_comm (1 / _) (weight z M s), weight_quot]

/-- The same sum with natural exponentials of `ln 2` times the scores, all shifted by one real: each weight is divided by
    the sum before it meets its value. Places from `n` on are masked. -/
theorem soft_natural (z : ℕ → ℝ) (v : ℕ → EReal) {n b : ℕ} (hn : 0 < n) (hb : n ≤ b) (d : ℝ) (x y : Fin b → EReal)
    (hx : ∀ j, x j = if j.val < n then ((Real.log 2 * z j.val + d : ℝ) : EReal) else ⊥)
    (hy : ∀ j : Fin b, y j = v j.val) {M : EReal} (hM : M = max ⊥ (Finset.univ.fold max ⊥ x)) :
    ∑ j, Ideal.div (Ideal.exp (x j - M)) (∑ i, Ideal.exp (x i - M)) * y j = soft z v n := by
  obtain ⟨M', hM'⟩ : ∃ M' : ℝ, M = (M' : EReal) := by
    rw [hM]
    refine exists_fold_max _ _ (fun j _ => ?_) _ bot_ne_top ⟨⟨0, by omega⟩, Finset.mem_univ _, ?_⟩
    · rw [hx]; split
      · exact EReal.coe_ne_top _
      · exact bot_ne_top
    · rw [hx, if_pos hn]; exact EReal.coe_ne_bot _
  have hlog : Real.log 2 ≠ 0 := (Real.log_pos one_lt_two).ne'
  have hp : ∀ j, Ideal.exp (x j - M) = if j.val < n then ((weight z ((M' - d) / Real.log 2) j.val : ℝ) : EReal) else 0 := by
    intro j
    rw [hx, hM']
    split
    · rw [← EReal.coe_sub, Ideal.exp_coe, weight, Real.rpow_def_of_pos two_pos]
      congr 2
      field_simp; ring
    · rw [EReal.bot_sub, Ideal.exp_bot]
  have hl : ∑ j, Ideal.exp (x j - M) = ((∑ j ∈ Finset.range n, weight z ((M' - d) / Real.log 2) j : ℝ) : EReal) := by
    rw [Finset.sum_congr rfl fun j _ => hp j, coe_sum,
      sum_block hb fun j => ((weight z ((M' - d) / Real.log 2) j : ℝ) : EReal)]
  rw [hl]
  unfold soft
  rw [← sum_block hb fun s => ((weight z 0 s / ∑ i ∈ Finset.range n, weight z 0 i : ℝ) : EReal) * v s]
  refine Finset.sum_congr rfl fun j _ => ?_
  rw [Ideal.div_coe (sum_weight_ne hn), hp j, hy j]
  split
  · rw [← EReal.coe_mul, weight_quot]
  · rw [zero_mul, zero_mul]

end Cert.Attn

end
-- ==== Proof.Attn.Step.lean ====
/- What the attention's kernel does with one block of keys, named once for every block of queries: the scores of a block
   of 256 queries against a block of 256 keys, the mask of the last block, the carried triple after the block, and the rows
   written at the end. Each is read at an index. -/
module

public import proofs.«01_k».proof.Proof.Gen.KernelIdeal.Skeleton
public import proofs.«01_k».proof.Proof.Attn.Online
public import Idealize.ShloMosaic.Lib.Pointwise
public import Idealize.ShloMosaic.Lib.WordCmp

@[expose] public section

set_option maxRecDepth 16384

noncomputable section

namespace Cert.Attn

open Idealize.ShloMosaic Idealize.ShloMosaic.TcCoe Cert.KernelIdeal Cert.KernelIdeal.Gen

variable {F : FTy → Type} [FloatOps F] [Named F]

/-- The carried triple: the running maximum, the running sum and the running weighted sum of each of 256 rows. -/
abbrev Carry (F : FTy → Type) : Type := FVec F S256x1 .f32 × FVec F S256x1 .f32 × FVec F S256x128 .f32

/-- A block of 256 rows of a head without its unit axes. -/
def rows (x : Vec F S1x1x256x128 .bf16) : FVec F S256x128 .bf16 := shapeCast S256x128 x shapeCasts_S1x1x256x128_S256x128

/-- The first cumulative logit of a block. -/
def first (x : Vec F S1x1x1x1x256 .f32) : FVec F S1x1 .f32 :=
  extractStridedSlice S1x1 ![0, 0] (shapeCast S1x256 x shapeCasts_S1x1x1x1x256_S1x256) slices_S1x256_o0_0_S1x1

/-- The scores: products of queries and keys, and the difference of cumulative logits as a power of two. -/
def scores (q : FVec F S256x128 .bf16) (c0 : FVec F S1x1 .f32) (k : FVec F S256x128 .bf16) (cu : Vec F S1x1x1x1x256 .f32) :
    FVec F S256x256 .f32 :=
  addf (matmul dot_S256x128_S256x128_S256x256_1_1_0_0_n_n none q k (constant S256x256 .f32 0x00000000#32))
    (broadcastTo S256x256
      (mulf (subf (broadcastTo S1x256 c0 broadcasts_S1x1_S1x256) (shapeCast S1x256 cu shapeCasts_S1x1x1x1x256_S1x256))
        (broadcast S1x256 (Named.named κ "log2e" 0x3FB8AA3B#32)))
      broadcasts_S1x256_S256x256)

/-- The scores of the block on the diagonal: a later key's is minus infinity. -/
def masked (s : FVec F S256x256 .f32) : FVec F S256x256 .f32 :=
  select (cmpi .sle (iota .tc S256x256 32 [1] iota_S256x256_d1_w32) (iota .tc S256x256 32 [0] iota_S256x256_d0_w32)) s
    (broadcast S256x256 (Scalar.ofBits .f32 0xFF800000#32))

/-- The maximum of each row, with the one carried. -/
def newMax (m : FVec F S256x1 .f32) (s : FVec F S256x256 .f32) : FVec F S256x1 .f32 :=
  maximumf m (shapeCast S256x1 (multiReduction .maximumf [1] S256 s 0xFF800000#32 reduces_S256x256_S256 (.inl rfl) rfl)
    shapeCasts_S256_S256x1)

/-- The factor of the carried sums. -/
def scale (m m' : FVec F S256x1 .f32) : FVec F S256x1 .f32 := exp2 (subf m m')

/-- The weights of the block. -/
def weights (s : FVec F S256x256 .f32) (m' : FVec F S256x1 .f32) : FVec F S256x256 .f32 :=
  exp2 (subf s (broadcastTo S256x256 m' broadcasts_S256x1_S256x256))

/-- The sum of the weights, carried on. -/
def newSum (a l : FVec F S256x1 .f32) (p : FVec F S256x256 .f32) : FVec F S256x1 .f32 :=
  addf (mulf a l) (shapeCast S256x1 (multiReduction .add [1] S256 p 0x00000000#32 reduces_S256x256_S256 (.inl rfl) rfl)
    shapeCasts_S256_S256x1)

/-- The weighted sum of the values, carried on. -/
def newAcc (a : FVec F S256x1 .f32) (acc : FVec F S256x128 .f32) (p : FVec F S256x256 .f32) (v : FVec F S256x128 .bf16) :
    FVec F S256x128 .f32 :=
  addf (mulf (broadcastTo S256x128 a broadcasts_S256x1_S256x128) acc)
    (matmul dot_S256x256_S256x128_S256x128_1_0_0_1_n_n none (truncf .bf16 p bitsLt_bf16_f32) v
      (constant S256x128 .f32 0x00000000#32))

/-- The carried triple after one block of keys. -/
def step (s : FVec F S256x256 .f32) (v : FVec F S256x128 .bf16) (x : Carry F) : Carry F :=
  (newMax x.1 s, newSum (scale x.1 (newMax x.1 s)) x.2.1 (weights s (newMax x.1 s)),
    newAcc (scale x.1 (newMax x.1 s)) x.2.2 (weights s (newMax x.1 s)) v)

/-- The triple before the first block. -/
def start : Carry F :=
  (broadcast S256x1 (Scalar.ofBits .f32 0xFF800000#32), broadcast S256x1 (Scalar.ofBits .f32 0x00000000#32),
    broadcast S256x128 (Scalar.ofBits .f32 0x00000000#32))

/-- The rows written: the quotient of the two sums. -/
def finish (x : Carry F) : FVec F S1x1x256x128 .bf16 :=
  shapeCast S1x1x256x128 (truncf .bf16 (divf x.2.2 (broadcastTo S256x128 x.2.1 broadcasts_S256x1_S256x128)) bitsLt_bf16_f32)
    shapeCasts_S256x128_S1x1x256x128

/-! ## At an index -/

open Idealize.ShloMosaic.Pointwise

theorem negInf : Ideal.ofBits .f32 0xFF800000#32 = ⊥ := by simp [Ideal.ofBits, Ideal.ieee]

theorem log2e : Named.named (F := Ideal) κ "log2e" (φ := .f32) 0x3FB8AA3B#32 = (((Real.log 2)⁻¹ : ℝ) : EReal) :=
  IdealRules.named_const.ideal_named_scalar _ _ _ _ rfl

theorem scores_apply (q : FVec Ideal S256x128 .bf16) (c0 : FVec Ideal S1x1 .f32) (k : FVec Ideal S256x128 .bf16)
    (cu : Vec Ideal S1x1x1x1x256 .f32) (r j : Fin 256) :
    scores q c0 k cu (ix2 r j) = (∑ d : Fin 128, q (ix2 r d) * k (ix2 j d))
      + (c0 (ix2 0 0) - cu (ix5 0 0 0 0 j)) * (((Real.log 2)⁻¹ : ℝ) : EReal) := by
  pointwise [scores, log2e]

theorem masked_apply (s : FVec Ideal S256x256 .f32) (r j : Fin 256) :
    masked s (ix2 r j) = if j.val ≤ r.val then s (ix2 r j) else ⊥ := by
  pointwise [masked]
  rw [negInf, Idealize.ShloMosaic.WordCmp.cmpi_sle_ofNat (by omega) (by omega)]
  by_cases h : j.val ≤ r.val <;> simp [h, Scalar.select]

theorem newMax_apply (m : FVec Ideal S256x1 .f32) (s : FVec Ideal S256x256 .f32) (r : Fin 256) :
    newMax m s (ix2 r 0) = max (m (ix2 r 0)) (Finset.univ.fold max ⊥ fun j : Fin 256 => s (ix2 r j)) := by
  pointwise [newMax]
  rw [negInf]

theorem newSum_apply (a l : FVec Ideal S256x1 .f32) (p : FVec Ideal S256x256 .f32) (r : Fin 256) :
    newSum a l p (ix2 r 0) = a (ix2 r 0) * l (ix2 r 0) + ∑ j : Fin 256, p (ix2 r j) := by
  pointwise [newSum]

theorem newAcc_apply (a : FVec Ideal S256x1 .f32) (acc : FVec Ideal S256x128 .f32) (p : FVec Ideal S256x256 .f32)
    (v : FVec Ideal S256x128 .bf16) (r : Fin 256) (d : Fin 128) :
    newAcc a acc p v (ix2 r d) = a (ix2 r 0) * acc (ix2 r d) + ∑ j : Fin 256, p (ix2 r j) * v (ix2 j d) := by
  pointwise [newAcc]

theorem finish_apply (x : Carry Ideal) (r : Fin 256) (d : Fin 128) :
    finish x (ix4 0 0 r d) = Ideal.div (x.2.2 (ix2 r d)) (x.2.1 (ix2 r 0)) := by
  pointwise [finish]

end Cert.Attn

end
-- ==== Proof.Attn.Sweep.lean ====
/- The attention's sweep over the blocks of keys: the carried triple after `k` whole blocks, and each of the kernel's counted
   loops as that sweep. -/
module

public import proofs.«01_k».proof.Proof.Gen.KernelIdeal.Loops
public import proofs.«01_k».proof.Proof.Attn.Step
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen Idealize.SL.Sem

variable {F : FTy → Type} [FloatOps F] [Named F]

theorem inb4 (n : Fin 8) : ∀ a, (![0, 0, 256 * n.val, 0] : Fin 4 → ℕ) a + S1x1x256x128.size a ≤ S1x1x2048x128.size a := by
  revert n; decide

theorem inb5 (n : Fin 8) : ∀ a, (![0, 0, n.val, 0, 0] : Fin 5 → ℕ) a + S1x1x1x1x256.size a ≤ S1x1x8x1x256.size a := by
  revert n; decide

/-- The rectangle of the `n`th 256 rows of a head. -/
abbrev rect4 (n : Fin 8) : Rect S1x1x2048x128 := Rect.unit ![0, 0, 256 * n.val, 0] S1x1x256x128.size (inb4 n)

/-- The rectangle of the `n`th 256 cumulative logits of a head. -/
abbrev rect5 (n : Fin 8) : Rect S1x1x8x1x256 := Rect.unit ![0, 0, n.val, 0, 0] S1x1x1x1x256.size (inb5 n)

/-- The `n`th 256 rows of a head. -/
def blk (x : Vec F S1x1x2048x128 .bf16) (n : Fin 8) : Vec F S1x1x256x128 .bf16 := View.ld x (rect4 n)

/-- The `n`th 256 cumulative logits of a head. -/
def logits (x : Vec F S1x1x8x1x256 .f32) (n : Fin 8) : Vec F S1x1x1x1x256 .f32 := View.ld x (rect5 n)

theorem read_blk {m : Memref sig .tc .vmem S1x1x2048x128 .bf16} (h : m.IsWhole) (x : Vec F S1x1x2048x128 .bf16)
    {off : Fin 4 → ℕ} (inb : ∀ a, off a + S1x1x256x128.size a ≤ S1x1x2048x128.size a) (n : Fin 8)
    (ho : off = ![0, 0, 256 * n.val, 0]) :
    m.view.readAt (Elt F) (Rect.unit off S1x1x256x128.size inb : Rect S1x1x2048x128).toLoadRect (h.unread x) = blk x n := by
  subst ho
  rw [View.readAt_eq_ld, h.read_unread]; rfl

theorem read_logits {m : Memref sig .tc .vmem S1x1x8x1x256 .f32} (h : m.IsWhole) (x : Vec F S1x1x8x1x256 .f32)
    {off : Fin 5 → ℕ} (inb : ∀ a, off a + S1x1x1x1x256.size a ≤ S1x1x8x1x256.size a) (n : Fin 8)
    (ho : off = ![0, 0, n.val, 0, 0]) :
    m.view.readAt (Elt F) (Rect.unit off S1x1x1x1x256.size inb : Rect S1x1x8x1x256).toLoadRect (h.unread x) = logits x n := by
  subst ho
  rw [View.readAt_eq_ld, h.read_unread]; rfl

/-- One whole block of keys. -/
def whole (q : FVec F S256x128 .bf16) (c0 : FVec F S1x1 .f32) (xk xv : Vec F S1x1x2048x128 .bf16) (xc : Vec F S1x1x8x1x256 .f32)
    (n : Fin 8) (x : Carry F) : Carry F :=
  step (scores q c0 (rows (blk xk n)) (logits xc n)) (rows (blk xv n)) x

/-- The triple after the first `k` blocks, all of them whole. -/
def sweep (q : FVec F S256x128 .bf16) (c0 : FVec F S1x1 .f32) (xk xv : Vec F S1x1x2048x128 .bf16) (xc : Vec F S1x1x8x1x256 .f32) :
    ℕ → Carry F
  | 0 => start
  | k + 1 => if h : k < 8 then whole q c0 xk xv xc ⟨k, h⟩ (sweep q c0 xk xv xc k) else sweep q c0 xk xv xc k

theorem sweep_of_steps (q : FVec F S256x128 .bf16) (c0 : FVec F S1x1 .f32) (xk xv : Vec F S1x1x2048x128 .bf16)
    (xc : Vec F S1x1x8x1x256 .f32) (st : ℕ → Carry F) (n : ℕ) (hn : n ≤ 8) (h0 : st 0 = start)
    (hs : ∀ k (hk : k < n), st (k + 1) = whole q c0 xk xv xc ⟨k, by omega⟩ (st k)) : ∀ k ≤ n, st k = sweep q c0 xk xv xc k
  | 0, _ => h0
  | k + 1, h => by
    rw [hs k (by omega), sweep, dif_pos (show k < 8 by omega), sweep_of_steps q c0 xk xv xc st n hn h0 hs k (by omega)]

variable (𝒱 : Variants) (c : Dev nD) (bd : Option 𝒱.V) (i : grid0.Coords)
  (a2 : Memref sig .tc .vmem S1x1x2048x128 .bf16) (h2 : a2.IsWhole) (a3 : Memref sig .tc .vmem S1x1x2048x128 .bf16) (h3 : a3.IsWhole)
  (a4 : Memref sig .tc .vmem S1x1x2048x128 .bf16) (h4 : a4.IsWhole) (a5 : Memref sig .tc .vmem S1x1x8x1x256 .f32) (h5 : a5.IsWhole)
  (a6 : Memref sig .tc .vmem S1x1x2048x128 .bf16) (h6 : a6.IsWhole) (v2 : IVec S256x256 1)
  (q : FVec F S256x128 .bf16) (c0 : FVec F S1x1 .f32)
  (xk xv : Vec F S1x1x2048x128 .bf16) (xc : Vec F S1x1x8x1x256 .f32)

/-- The first loop sweeps 2 blocks. -/
theorem loop1 : ∀ k ≤ 2, st_k0_t1 (F := F) 𝒱 c bd i a2 h2 a3 h3 a4 h4 a5 h5 a6 h6 v2 q c0 (h3.unread xk) (h4.unread xv)
    (h5.unread xc) (k0_pay27, k0_pay28, k0_pay29) k = sweep q c0 xk xv xc k := by
  refine sweep_of_steps _ _ xk xv xc _ 2 (by omega) rfl fun k hk => ?_
  have hk' : k < k0_t1_loop.trips := hk
  rw [st_k0_t1_succ 𝒱 c bd i a2 h2 a3 h3 a4 h4 a5 h5 a6 h6 v2 q c0 _ _ _ _ (⟨k, hk'⟩ : Fin k0_t1_loop.trips)]
  unfold tripR_k0_t1 trip_k0_t1
  dsimp only
  simp only [read_blk _ _ _ (⟨k, by omega⟩ : Fin 8) (k0_off2_eq (⟨k, hk'⟩ : Fin k0_t1_loop.trips)),
    read_logits _ _ _ (⟨k, by omega⟩ : Fin 8) (k0_off3_eq (⟨k, hk'⟩ : Fin k0_t1_loop.trips))]
  rfl

/-- The second loop sweeps 3 blocks. -/
theorem loop2 (p0 : FVec F S256x128 .f32) (p1 : FVec F S256x128 .bf16) (p2 : FVec F S256x256 .f32) (p3 : FVec F S256x1 .f32)
    (p4 : FVec F S256x128 .f32) (vq : Vec F S1x1x256x128 .bf16) (vc : Vec F S1x1x1x1x256 .f32) : ∀ k ≤ 3, st_k0_t2 (F := F) 𝒱 c bd i a2 h2 a3 h3 a4 h4 a5 h5 a6 h6 p0 p1 p2 p3 p4 vq vc (h3.unread xk) (h4.unread xv)
    (h5.unread xc) (k0_pay46, k0_pay47, k0_pay48) k = sweep (rows vq) (first vc) xk xv xc k := by
  refine sweep_of_steps _ _ xk xv xc _ 3 (by omega) rfl fun k hk => ?_
  have hk' : k < k0_t2_loop.trips := hk
  rw [st_k0_t2_succ 𝒱 c bd i a2 h2 a3 h3 a4 h4 a5 h5 a6 h6 p0 p1 p2 p3 p4 vq vc _ _ _ _ (⟨k, hk'⟩ : Fin k0_t2_loop.trips)]
  unfold tripR_k0_t2 trip_k0_t2
  dsimp only
  simp only [read_blk _ _ _ (⟨k, by omega⟩ : Fin 8) (k0_off4_eq (⟨k, hk'⟩ : Fin k0_t2_loop.trips)),
    read_logits _ _ _ (⟨k, by omega⟩ : Fin 8) (k0_off5_eq (⟨k, hk'⟩ : Fin k0_t2_loop.trips))]
  rfl

/-- The third loop sweeps 4 blocks. -/
theorem loop3 : ∀ k ≤ 4, st_k0_t3 (F := F) 𝒱 c bd i a2 h2 a3 h3 a4 h4 a5 h5 a6 h6 v2 q c0 (h3.unread xk) (h4.unread xv)
    (h5.unread xc) (k0_pay60, k0_pay61, k0_pay62) k = sweep q c0 xk xv xc k := by
  refine sweep_of_steps _ _ xk xv xc _ 4 (by omega) rfl fun k hk => ?_
  have hk' : k < k0_t3_loop.trips := hk
  rw [st_k0_t3_succ 𝒱 c bd i a2 h2 a3 h3 a4 h4 a5 h5 a6 h6 v2 q c0 _ _ _ _ (⟨k, hk'⟩ : Fin k0_t3_loop.trips)]
  unfold tripR_k0_t3 trip_k0_t3
  dsimp only
  simp only [read_blk _ _ _ (⟨k, by omega⟩ : Fin 8) (k0_off6_eq (⟨k, hk'⟩ : Fin k0_t3_loop.trips)),
    read_logits _ _ _ (⟨k, by omega⟩ : Fin 8) (k0_off7_eq (⟨k, hk'⟩ : Fin k0_t3_loop.trips))]
  rfl

/-- The fourth loop sweeps 5 blocks. -/
theorem loop4 (p0 : FVec F S256x128 .f32) (p1 : FVec F S256x128 .bf16) (p2 : FVec F S256x256 .f32) (p3 : FVec F S256x1 .f32)
    (p4 : FVec F S256x128 .f32) (vq : Vec F S1x1x256x128 .bf16) (vc : Vec F S1x1x1x1x256 .f32) : ∀ k ≤ 5, st_k0_t4 (F := F) 𝒱 c bd i a2 h2 a3 h3 a4 h4 a5 h5 a6 h6 p0 p1 p2 p3 p4 vq vc (h3.unread xk) (h4.unread xv)
    (h5.unread xc) (k0_pay79, k0_pay80, k0_pay81) k = sweep (rows vq) (first vc) xk xv xc k := by
  refine sweep_of_steps _ _ xk xv xc _ 5 (by omega) rfl fun k hk => ?_
  have hk' : k < k0_t4_loop.trips := hk
  rw [st_k0_t4_succ 𝒱 c bd i a2 h2 a3 h3 a4 h4 a5 h5 a6 h6 p0 p1 p2 p3 p4 vq vc _ _ _ _ (⟨k, hk'⟩ : Fin k0_t4_loop.trips)]
  unfold tripR_k0_t4 trip_k0_t4
  dsimp only
  simp only [read_blk _ _ _ (⟨k, by omega⟩ : Fin 8) (k0_off8_eq (⟨k, hk'⟩ : Fin k0_t4_loop.trips)),
    read_logits _ _ _ (⟨k, by omega⟩ : Fin 8) (k0_off9_eq (⟨k, hk'⟩ : Fin k0_t4_loop.trips))]
  rfl

/-- The fifth loop sweeps 6 blocks. -/
theorem loop5 : ∀ k ≤ 6, st_k0_t5 (F := F) 𝒱 c bd i a2 h2 a3 h3 a4 h4 a5 h5 a6 h6 v2 q c0 (h3.unread xk) (h4.unread xv)
    (h5.unread xc) (k0_pay93, k0_pay94, k0_pay95) k = sweep q c0 xk xv xc k := by
  refine sweep_of_steps _ _ xk xv xc _ 6 (by omega) rfl fun k hk => ?_
  have hk' : k < k0_t5_loop.trips := hk
  rw [st_k0_t5_succ 𝒱 c bd i a2 h2 a3 h3 a4 h4 a5 h5 a6 h6 v2 q c0 _ _ _ _ (⟨k, hk'⟩ : Fin k0_t5_loop.trips)]
  unfold tripR_k0_t5 trip_k0_t5
  dsimp only
  simp only [read_blk _ _ _ (⟨k, by omega⟩ : Fin 8) (k0_off10_eq (⟨k, hk'⟩ : Fin k0_t5_loop.trips)),
    read_logits _ _ _ (⟨k, by omega⟩ : Fin 8) (k0_off11_eq (⟨k, hk'⟩ : Fin k0_t5_loop.trips))]
  rfl

/-- The sixth loop sweeps 7 blocks. -/
theorem loop6 (p0 : FVec F S256x128 .f32) (p1 : FVec F S256x128 .bf16) (p2 : FVec F S256x256 .f32) (p3 : FVec F S256x1 .f32)
    (p4 : FVec F S256x128 .f32) (vq : Vec F S1x1x256x128 .bf16) (vc : Vec F S1x1x1x1x256 .f32) : ∀ k ≤ 7, st_k0_t6 (F := F) 𝒱 c bd i a2 h2 a3 h3 a4 h4 a5 h5 a6 h6 p0 p1 p2 p3 p4 vq vc (h3.unread xk) (h4.unread xv)
    (h5.unread xc) (k0_pay112, k0_pay113, k0_pay114) k = sweep (rows vq) (first vc) xk xv xc k := by
  refine sweep_of_steps _ _ xk xv xc _ 7 (by omega) rfl fun k hk => ?_
  have hk' : k < k0_t6_loop.trips := hk
  rw [st_k0_t6_succ 𝒱 c bd i a2 h2 a3 h3 a4 h4 a5 h5 a6 h6 p0 p1 p2 p3 p4 vq vc _ _ _ _ (⟨k, hk'⟩ : Fin k0_t6_loop.trips)]
  unfold tripR_k0_t6 trip_k0_t6
  dsimp only
  simp only [read_blk _ _ _ (⟨k, by omega⟩ : Fin 8) (k0_off12_eq (⟨k, hk'⟩ : Fin k0_t6_loop.trips)),
    read_logits _ _ _ (⟨k, by omega⟩ : Fin 8) (k0_off13_eq (⟨k, hk'⟩ : Fin k0_t6_loop.trips))]
  rfl

end Cert.Attn

end
-- ==== Proof.Attn.Rows.lean ====
/- What the attention's kernel leaves in its output block: eight blocks of 256 rows, each the sweep over the blocks of keys
   before the diagonal, then the masked block on it, then the quotient. -/
module

public import proofs.«01_k».proof.Proof.Gen.KernelIdeal.Frame
public import proofs.«01_k».proof.Proof.Attn.Sweep

@[expose] public section

set_option maxRecDepth 16384

noncomputable section

namespace Cert.Attn

open Idealize.ShloMosaic Idealize.ShloMosaic.TcCoe Cert.KernelIdeal Cert.KernelIdeal.Gen Idealize.SL.Sem

variable {F : FTy → Type} [FloatOps F] [Named F]

/-- The triple of the `n`th 256 queries after all its keys. -/
def triple (xq xk xv : Vec F S1x1x2048x128 .bf16) (xc : Vec F S1x1x8x1x256 .f32) (n : Fin 8) : Carry F :=
  step (masked (scores (rows (blk xq n)) (first (logits xc n)) (rows (blk xk n)) (logits xc n))) (rows (blk xv n))
    (sweep (rows (blk xq n)) (first (logits xc n)) xk xv xc n.val)

variable (c : Dev nD) (i : grid0.Coords)
  (a2 : Memref sig .tc .vmem S1x1x2048x128 .bf16) (h2 : a2.IsWhole) (a3 : Memref sig .tc .vmem S1x1x2048x128 .bf16) (h3 : a3.IsWhole)
  (a4 : Memref sig .tc .vmem S1x1x2048x128 .bf16) (h4 : a4.IsWhole) (a5 : Memref sig .tc .vmem S1x1x8x1x256 .f32) (h5 : a5.IsWhole)
  (a6 : Memref sig .tc .vmem S1x1x2048x128 .bf16) (h6 : a6.IsWhole)
  (xq xk xv : Vec F S1x1x2048x128 .bf16) (xc : Vec F S1x1x8x1x256 .f32)

theorem trips1 : Scf.trips 0#32 (Scalar.addi 0#32 2#32) 1#32 = 2 := by decide

theorem trips2 : Scf.trips 0#32 (Scalar.addi 0#32 3#32) 1#32 = 3 := by decide

theorem trips3 : Scf.trips 0#32 (Scalar.addi 0#32 4#32) 1#32 = 4 := by decide

theorem trips4 : Scf.trips 0#32 (Scalar.addi 0#32 5#32) 1#32 = 5 := by decide

theorem trips5 : Scf.trips 0#32 (Scalar.addi 0#32 6#32) 1#32 = 6 := by decide

theorem trips6 : Scf.trips 0#32 (Scalar.addi 0#32 7#32) 1#32 = 7 := by decide

/-- The `n`th block of rows, where it goes and what it holds. -/
def piece (n : Fin 8) : View.Piece (Elt F) S1x1x2048x128 .bf16 := ⟨rect4 n, finish (triple xq xk xv xc n)⟩

theorem pieces : (kernelRun0_A c i a2 h2 a3 h3 a4 h4 a5 h5 a6 h6 xq xk xv xc).1
    = [7, 6, 5, 4, 3, 2, 1, 0].map (piece xq xk xv xc) := by
  unfold kernelRun0_A; dsimp only; sl_unfold_words
  simp only [trips1, trips2, trips3, trips4, trips5, trips6]
  simp only [read_blk (off := ![0, 0, (Scalar.indexCast (Scalar.muli 0#32 256#32)).toNat, 0]) h3 xk (inb4 0) 0 rfl,
    read_blk (off := ![0, 0, (Scalar.indexCast (Scalar.muli 0#32 256#32)).toNat, 0]) h4 xv (inb4 0) 0 rfl,
    read_blk (off := ![0, 0, 0, 0]) h2 xq (inb4 0) 0 rfl,
    read_blk (off := ![0, 0, 0, 0]) h3 xk (inb4 0) 0 rfl,
    read_blk (off := ![0, 0, 0, 0]) h4 xv (inb4 0) 0 rfl,
    read_logits (off := ![0, 0, 0, 0, 0]) h5 xc (inb5 0) 0 rfl,
    read_blk (off := ![0, 0, 256, 0]) h2 xq (inb4 1) 1 rfl,
    read_blk (off := ![0, 0, 256, 0]) h3 xk (inb4 1) 1 rfl,
    read_blk (off := ![0, 0, 256, 0]) h4 xv (inb4 1) 1 rfl,
    read_logits (off := ![0, 0, 1, 0, 0]) h5 xc (inb5 1) 1 rfl,
    read_blk (off := ![0, 0, 512, 0]) h2 xq (inb4 2) 2 rfl,
    read_blk (off := ![0, 0, 512, 0]) h3 xk (inb4 2) 2 rfl,
    read_blk (off := ![0, 0, 512, 0]) h4 xv (inb4 2) 2 rfl,
    read_logits (off := ![0, 0, 2, 0, 0]) h5 xc (inb5 2) 2 rfl,
    read_blk (off := ![0, 0, 768, 0]) h2 xq (inb4 3) 3 rfl,
    read_blk (off := ![0, 0, 768, 0]) h3 xk (inb4 3) 3 rfl,
    read_blk (off := ![0, 0, 768, 0]) h4 xv (inb4 3) 3 rfl,
    read_logits (off := ![0, 0, 3, 0, 0]) h5 xc (inb5 3) 3 rfl,
    read_blk (off := ![0, 0, 1024, 0]) h2 xq (inb4 4) 4 rfl,
    read_blk (off := ![0, 0, 1024, 0]) h3 xk (inb4 4) 4 rfl,
    read_blk (off := ![0, 0, 1024, 0]) h4 xv (inb4 4) 4 rfl,
    read_logits (off := ![0, 0, 4, 0, 0]) h5 xc (inb5 4) 4 rfl,
    read_blk (off := ![0, 0, 1280, 0]) h2 xq (inb4 5) 5 rfl,
    read_blk (off := ![0, 0, 1280, 0]) h3 xk (inb4 5) 5 rfl,
    read_blk (off := ![0, 0, 1280, 0]) h4 xv (inb4 5) 5 rfl,
    read_logits (off := ![0, 0, 5, 0, 0]) h5 xc (inb5 5) 5 rfl,
    read_blk (off := ![0, 0, 1536, 0]) h2 xq (inb4 6) 6 rfl,
    read_blk (off := ![0, 0, 1536, 0]) h3 xk (inb4 6) 6 rfl,
    read_blk (off := ![0, 0, 1536, 0]) h4 xv (inb4 6) 6 rfl,
    read_logits (off := ![0, 0, 6, 0, 0]) h5 xc (inb5 6) 6 rfl,
    read_blk (off := ![0, 0, 1792, 0]) h2 xq (inb4 7) 7 rfl,
    read_blk (off := ![0, 0, 1792, 0]) h3 xk (inb4 7) 7 rfl,
    read_blk (off := ![0, 0, 1792, 0]) h4 xv (inb4 7) 7 rfl,
    read_logits (off := ![0, 0, 7, 0, 0]) h5 xc (inb5 7) 7 rfl]
  simp only [loop1 _ _ _ _ _ _ _ _ _ _ _ _ _ _ _ _ _ xk xv xc 2 le_rfl,
    loop2 _ _ _ _ _ _ _ _ _ _ _ _ _ _ xk xv xc _ _ _ _ _ _ _ 3 le_rfl,
    loop3 _ _ _ _ _ _ _ _ _ _ _ _ _ _ _ _ _ xk xv xc 4 le_rfl,
    loop4 _ _ _ _ _ _ _ _ _ _ _ _ _ _ xk xv xc _ _ _ _ _ _ _ 5 le_rfl,
    loop5 _ _ _ _ _ _ _ _ _ _ _ _ _ _ _ _ _ xk xv xc 6 le_rfl,
    loop6 _ _ _ _ _ _ _ _ _ _ _ _ _ _ xk xv xc _ _ _ _ _ _ _ 7 le_rfl]
  rfl

theorem rect4_disjoint (n n' : Fin 8) (h : n ≠ n') : Disjoint (rect4 n).set (rect4 n').set := by
  refine Rect.unit_disjoint (2 : Fin 4) ?_
  have h' : n.val ≠ n'.val := fun e => h (Fin.ext e)
  show 256 * n.val + 256 ≤ 256 * n'.val ∨ 256 * n'.val + 256 ≤ 256 * n.val
  omega

theorem map_rev {α : Type*} (f : Fin 8 → α) : [7, 6, 5, 4, 3, 2, 1, 0].map f = List.ofFn fun n : Fin 8 => f n.rev := by
  simp only [List.ofFn_succ, List.ofFn_zero]; rfl

/-- What the kernel leaves in the `n`th block of rows. -/
theorem out_apply (n : Fin 8) (x : S1x1x256x128.Idx) :
    out0_A_4 c i a2 h2 a3 h3 a4 h4 a5 h5 a6 h6 xq xk xv xc ((rect4 n).emb x) = finish (triple xq xk xv xc n) x := by
  unfold out0_A_4
  rw [View.read_writes_eq_canon _ _ _ (cover0_A_4 c i a2 h2 a3 h3 a4 h4 a5 h5 a6 h6 xq xk xv xc), pieces, map_rev]
  obtain ⟨n, rfl⟩ := Fin.rev_surjective n
  have h := View.canon_ofFn_emb_of_disjoint (Val := Elt F) (e := .bf16) (fun k : Fin 8 => (piece xq xk xv xc k.rev).1)
    (fun k => (piece xq xk xv xc k.rev).2) (fun k k' h => rect4_disjoint k.rev k'.rev fun e => h (Fin.rev_injective e)) n
  exact h x

end Cert.Attn

end
-- ==== Proof.Attn.Block.lean ====
/- One row of the attention's output block over the extended reals: the softmax-weighted sum of the values, from scores that
   are real. -/
module

public import proofs.«01_k».proof.Proof.Attn.Rows

@[expose] public section

set_option maxRecDepth 16384

noncomputable section

namespace Cert.Attn

open Idealize.ShloMosaic Idealize.ShloMosaic.TcCoe Idealize.ShloMosaic.Pointwise Cert.KernelIdeal Cert.KernelIdeal.Gen Idealize.SL.Sem

/-- The triple of row `r` and column `d`. -/
def At (z : ℕ → ℝ) (v : ℕ → EReal) (n : ℕ) (x : Carry Ideal) (r : Fin 256) (d : Fin 128) : Prop :=
  Holds z v n (x.1 (ix2 r 0)) (x.2.1 (ix2 r 0)) (x.2.2 (ix2 r d))

theorem at_start (z : ℕ → ℝ) (v : ℕ → EReal) (r : Fin 256) (d : Fin 128) : At z v 0 start r d := by
  have h : At z v 0 start r d = Holds z v 0 ⊥ 0 0 := by
    unfold At start
    have e1 : (broadcast S256x1 (Scalar.ofBits (F := Ideal) .f32 0xFF800000#32) : FVec Ideal S256x1 .f32) (ix2 r 0) = ⊥ := negInf
    have e2 : (broadcast S256x1 (Scalar.ofBits (F := Ideal) .f32 0x00000000#32) : FVec Ideal S256x1 .f32) (ix2 r 0) = 0 := by
      pointwise []
    have e3 : (broadcast S256x128 (Scalar.ofBits (F := Ideal) .f32 0x00000000#32) : FVec Ideal S256x128 .f32) (ix2 r d) = 0 := by
      pointwise []
    simp only [e1, e2, e3]
  rw [h]; exact holds_start z v

theorem scale_apply (m m' : FVec Ideal S256x1 .f32) (r : Fin 256) : scale m m' (ix2 r 0) = Ideal.exp2 (m (ix2 r 0) - m' (ix2 r 0)) := by
  pointwise [scale]; rfl

theorem weights_apply (s : FVec Ideal S256x256 .f32) (m' : FVec Ideal S256x1 .f32) (r j : Fin 256) :
    weights s m' (ix2 r j) = Ideal.exp2 (s (ix2 r j) - m' (ix2 r 0)) := by
  pointwise [weights]; rfl

/-- One block, of which the first `c` keys count for row `r`. -/
theorem at_step {z : ℕ → ℝ} {v : ℕ → EReal} {n : ℕ} {x : Carry Ideal} {r : Fin 256} {d : Fin 128} (h : At z v n x r d)
    {c : ℕ} (hc : c ≤ 256) (h0 : 0 < c) (s : FVec Ideal S256x256 .f32) (w : FVec Ideal S256x128 .bf16)
    (hs : ∀ j : Fin 256, s (ix2 r j) = if j.val < c then ((z (n + j.val) : ℝ) : EReal) else ⊥)
    (hw : ∀ j : Fin 256, w (ix2 j d) = v (n + j.val)) : At z v (n + c) (step s w x) r d := by
  have h' := holds_step h hc h0 (fun j => s (ix2 r j)) (fun j => w (ix2 j d)) hs (fun j _ => hw j) (newMax_apply x.1 s r)
  unfold At step
  dsimp only
  rw [newSum_apply, newAcc_apply]
  simp only [scale_apply, weights_apply]
  exact h'

/-- A whole block of keys counts in full. -/
theorem at_sweep {z : ℕ → ℝ} {v : ℕ → EReal} {r : Fin 256} {d : Fin 128} (q : FVec Ideal S256x128 .bf16) (c0 : FVec Ideal S1x1 .f32)
    (xk xv : Vec Ideal S1x1x2048x128 .bf16) (xc : Vec Ideal S1x1x8x1x256 .f32)
    (hs : ∀ (b : Fin 8) (j : Fin 256),
      scores q c0 (rows (blk xk b)) (logits xc b) (ix2 r j) = ((z (256 * b.val + j.val) : ℝ) : EReal))
    (hv : ∀ (b : Fin 8) (j : Fin 256), rows (blk xv b) (ix2 j d) = v (256 * b.val + j.val)) :
    ∀ k ≤ 8, At z v (256 * k) (sweep q c0 xk xv xc k) r d
  | 0, _ => at_start z v r d
  | k + 1, hk => by
    have hk' : k < 8 := by omega
    rw [sweep, dif_pos hk', Nat.mul_succ]
    refine at_step (at_sweep q c0 xk xv xc hs hv k (by omega)) le_rfl (by omega) _ _ (fun j => ?_) (fun j => hv ⟨k, hk'⟩ j)
    rw [if_pos j.isLt]; exact hs ⟨k, hk'⟩ j

/-- Row `r` of the `n`th block: keys up to and with its own. -/
theorem row_eq {z : ℕ → ℝ} {v : ℕ → EReal} {r : Fin 256} {d : Fin 128} (xq xk xv : Vec Ideal S1x1x2048x128 .bf16)
    (xc : Vec Ideal S1x1x8x1x256 .f32) (n : Fin 8)
    (hs : ∀ (b : Fin 8) (j : Fin 256), scores (rows (blk xq n)) (first (logits xc n)) (rows (blk xk b)) (logits xc b) (ix2 r j)
      = ((z (256 * b.val + j.val) : ℝ) : EReal))
    (hv : ∀ (b : Fin 8) (j : Fin 256), rows (blk xv b) (ix2 j d) = v (256 * b.val + j.val)) :
    finish (triple xq xk xv xc n) (ix4 0 0 r d) = soft z v (256 * n.val + r.val + 1) := by
  rw [finish_apply]
  have h := at_step (c := r.val + 1) (at_sweep (rows (blk xq n)) (first (logits xc n)) xk xv xc hs hv n.val n.isLt.le) (by omega)
    (by omega) (masked (scores (rows (blk xq n)) (first (logits xc n)) (rows (blk xk n)) (logits xc n))) (rows (blk xv n))
    (fun j => ?_) (fun j => hv n j)
  · exact holds_end (by omega) h
  · rw [masked_apply, hs n j]
    simp only [Nat.lt_succ_iff]

/-! ## The blocks read from the head's arrays -/

theorem rows_blk_apply (x : Vec Ideal S1x1x2048x128 .bf16) (n : Fin 8) (r : Fin 256) (d : Fin 128) :
    rows (blk x n) (ix2 r d) = x (ix4 0 0 ⟨256 * n.val + r.val, by omega⟩ d) := by
  have h : rows (blk x n) (ix2 r d) = blk x n (ix4 0 0 r d) := by pointwise [rows]
  rw [h]
  refine View.ld_unit_apply_of x _ _ _ _ _ fun a => ?_
  fin_cases a <;> simp [ix4]

theorem logits_apply (x : Vec Ideal S1x1x8x1x256 .f32) (n : Fin 8) (j : Fin 256) :
    logits x n (ix5 0 0 0 0 j) = x (ix5 0 0 n 0 j) := by
  refine View.ld_unit_apply_of x _ _ _ _ _ fun a => ?_
  fin_cases a <;> simp [ix5]

theorem first_apply (x : Vec Ideal S1x1x8x1x256 .f32) (n : Fin 8) : first (logits x n) (ix2 0 0) = x (ix5 0 0 n 0 0) := by
  have h : first (logits x n) (ix2 0 0) = logits x n (ix5 0 0 0 0 0) := by pointwise [first]
  rw [h, logits_apply]

theorem block_scores (xq xk : Vec Ideal S1x1x2048x128 .bf16) (xc : Vec Ideal S1x1x8x1x256 .f32) (n b : Fin 8) (r j : Fin 256) :
    scores (rows (blk xq n)) (first (logits xc n)) (rows (blk xk b)) (logits xc b) (ix2 r j)
      = (∑ d : Fin 128, xq (ix4 0 0 ⟨256 * n.val + r.val, by omega⟩ d) * xk (ix4 0 0 ⟨256 * b.val + j.val, by omega⟩ d))
        + (xc (ix5 0 0 n 0 0) - xc (ix5 0 0 b 0 j)) * (((Real.log 2)⁻¹ : ℝ) : EReal) := by
  rw [scores_apply, first_apply, logits_apply]
  simp only [rows_blk_apply]

end Cert.Attn

end
-- ==== Proof.Attn.Array.lean ====
/- The attention's output array: at every token, head and dimension the softmax-weighted sum of the values. -/
module

public import proofs.«01_k».proof.Proof.Attn.Block
public import proofs.«01_k».proof.Proof.Gen.KernelIdeal.Value
public import Idealize.ShloMosaic.Lib.Pipeline.ValueKit

@[expose] public section

set_option maxRecDepth 16384

noncomputable section

namespace Cert.Attn

open Idealize.ShloMosaic Idealize.ShloMosaic.TcCoe Idealize.ShloMosaic.Pointwise Idealize.ShloMosaic.Pipeline
open Cert.KernelIdeal Cert.KernelIdeal.Gen Idealize.SL.Sem

/-- The score of token `t` for the tokens `s` of its head, in base two, less the cumulative logit of `t` itself: that of the
    first token of its block of 256 is in its place. -/
def score (q k : S16x8x2048x128.Idx → ℝ) (cu : S16x8x2048.Idx → ℝ) (b : Fin 16) (h : Fin 8) (t : Fin 2048) (s : ℕ) : ℝ :=
  if hs : s < 2048 then ∑ d : Fin 128, q (ix4 b h t d) * k (ix4 b h ⟨s, hs⟩ d)
    + (cu (ix3 b h ⟨256 * (t.val / 256), by omega⟩) - cu (ix3 b h ⟨s, hs⟩)) * (Real.log 2)⁻¹ else 0

/-- Dimension `d` of the values of one head. -/
def value (v : S16x8x2048x128.Idx → EReal) (b : Fin 16) (h : Fin 8) (d : Fin 128) (s : ℕ) : EReal :=
  if hs : s < 2048 then v (ix4 b h ⟨s, hs⟩ d) else 0

/-- The attention's output. -/
def attend (q k : S16x8x2048x128.Idx → ℝ) (cu : S16x8x2048.Idx → ℝ) (v : S16x8x2048x128.Idx → EReal) (i : S16x8x2048x128.Idx) : EReal :=
  soft (score q k cu (i 0) (i 1) (i 2)) (value v (i 0) (i 1) (i 3)) ((i 2).val + 1)

/-- One row of a block, from the head's arrays: `q`, `k` and `cu` are real. -/
theorem row_attend (q k : S16x8x2048x128.Idx → ℝ) (cu : S16x8x2048.Idx → ℝ) (v : S16x8x2048x128.Idx → EReal) (b : Fin 16) (h : Fin 8)
    (xq xk xv : Vec Ideal S1x1x2048x128 .bf16) (xc : Vec Ideal S1x1x8x1x256 .f32)
    (hq : ∀ (t : Fin 2048) (d : Fin 128), xq (ix4 0 0 t d) = ((q (ix4 b h t d) : ℝ) : EReal))
    (hk : ∀ (t : Fin 2048) (d : Fin 128), xk (ix4 0 0 t d) = ((k (ix4 b h t d) : ℝ) : EReal))
    (hv : ∀ (t : Fin 2048) (d : Fin 128), xv (ix4 0 0 t d) = v (ix4 b h t d))
    (hc : ∀ (n : Fin 8) (j : Fin 256), xc (ix5 0 0 n 0 j) = ((cu (ix3 b h ⟨256 * n.val + j.val, by omega⟩) : ℝ) : EReal))
    (n : Fin 8) (r : Fin 256) (d : Fin 128) :
    finish (triple xq xk xv xc n) (ix4 0 0 r d) = attend q k cu v (ix4 b h ⟨256 * n.val + r.val, by omega⟩ d) := by
  refine row_eq (z := score q k cu b h ⟨256 * n.val + r.val, by omega⟩) (v := value v b h d) xq xk xv xc n (fun a j => ?_) fun a j => ?_
  · rw [block_scores, hc, hc]
    simp only [hq, hk]
    have ha : 256 * a.val + j.val < 2048 := by omega
    have e : (⟨256 * n.val + (0 : Fin 256).val, by omega⟩ : Fin 2048) = ⟨256 * ((256 * n.val + r.val) / 256), by omega⟩ :=
      Fin.ext (show 256 * n.val + 0 = 256 * ((256 * n.val + r.val) / 256) by omega)
    rw [score, dif_pos ha, e]
    push_cast [coe_sum]
    rfl
  · rw [rows_blk_apply, hv, value, dif_pos]

variable (m : (ℓ : Loc nD τ sig) → Buf (Elt Ideal) ℓ)

theorem idx : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, t.val % 8, 0, 0, 0]
    ∧ win0_4.index t = ![t.val / 8, t.val % 8, 0, 0] :=
  (by decide +kernel : ∀ t : Fin grid0.N, _)

theorem read_q (c : Dev nD) (t : Fin cfg0.N) (s : Fin 2048) (d : Fin 128) :
    iblk m c 0 t (ix4 0 0 s d) = m ((c : Thread nD τ).loc main_arg0) (ix4 ⟨t.val / 8, by have := t.isLt; change t.val < 128 at this; omega⟩ ⟨t.val % 8, by omega⟩ s d) := by
  blk_point [iblk, V, idx t]

theorem read_k (c : Dev nD) (t : Fin cfg0.N) (s : Fin 2048) (d : Fin 128) :
    iblk m c 1 t (ix4 0 0 s d) = m ((c : Thread nD τ).loc main_arg1) (ix4 ⟨t.val / 8, by have := t.isLt; change t.val < 128 at this; omega⟩ ⟨t.val % 8, by omega⟩ s d) := by
  blk_point [iblk, V, idx t]

theorem read_v (c : Dev nD) (t : Fin cfg0.N) (s : Fin 2048) (d : Fin 128) :
    iblk m c 2 t (ix4 0 0 s d) = m ((c : Thread nD τ).loc main_arg2) (ix4 ⟨t.val / 8, by have := t.isLt; change t.val < 128 at this; omega⟩ ⟨t.val % 8, by omega⟩ s d) := by
  blk_point [iblk, V, idx t]

theorem read_cum (c : Dev nD) (t : Fin cfg0.N) (n : Fin 8) (j : Fin 256) :
    iblk m c 3 t (ix5 0 0 n 0 j) = m ((c : Thread nD τ).loc main_arg3) (ix3 ⟨t.val / 8, by have := t.isLt; change t.val < 128 at this; omega⟩ ⟨t.val % 8, by omega⟩ ⟨256 * n.val + j.val, by omega⟩) := by
  blk_simp [iblk, idx t]
  entry_read
  pointwise []
  blk_ext [idx t]

/-- Block `t` of the output. -/
theorem block (q k : S16x8x2048x128.Idx → ℝ) (cu : S16x8x2048.Idx → ℝ) (c : Dev nD)
    (hq : ∀ i, m ((c : Thread nD τ).loc main_arg0) i = ((q i : ℝ) : EReal))
    (hk : ∀ i, m ((c : Thread nD τ).loc main_arg1) i = ((k i : ℝ) : EReal))
    (hc : ∀ i, m ((c : Thread nD τ).loc main_arg3) i = ((cu i : ℝ) : EReal)) (t : Fin cfg0.N) (s : Fin 2048) (d : Fin 128) :
    outsAt0 m c t (ix4 0 0 s d) = attend q k cu (m ((c : Thread nD τ).loc main_arg2))
      (ix4 ⟨t.val / 8, by have := t.isLt; change t.val < 128 at this; omega⟩ ⟨t.val % 8, by omega⟩ s d) := by
  have e : (ix4 0 0 s d : S1x1x2048x128.Idx)
      = (rect4 ⟨s.val / 256, by omega⟩).emb (ix4 0 0 ⟨s.val % 256, Nat.mod_lt _ (by decide)⟩ d) := by
    funext a
    refine Fin.ext ?_
    rw [Rect.emb_apply]
    fin_cases a <;> simp [ix4]
    omega
  have es : (⟨256 * (s.val / 256) + s.val % 256, by omega⟩ : Fin 2048) = s := Fin.ext (Nat.div_add_mod _ _)
  rw [outsAt0, e, out_apply, row_attend q k cu (m ((c : Thread nD τ).loc main_arg2)) _ _ _ _ _ _
    (fun t' d' => (read_q m c t t' d').trans (hq _)) (fun t' d' => (read_k m c t t' d').trans (hk _)) (read_v m c t)
    (fun n j => (read_cum m c t n j).trans (hc _))]
  exact congrArg (fun s' => attend q k cu _ (ix4 _ _ s' d)) es

/-- The whole output. -/
theorem final (q k : S16x8x2048x128.Idx → ℝ) (cu : S16x8x2048.Idx → ℝ) (c : Dev nD)
    (hq : ∀ i, m ((c : Thread nD τ).loc main_arg0) i = ((q i : ℝ) : EReal))
    (hk : ∀ i, m ((c : Thread nD τ).loc main_arg1) i = ((k i : ℝ) : EReal))
    (hc : ∀ i, m ((c : Thread nD τ).loc main_arg3) i = ((cu i : ℝ) : EReal)) :
    (dats m 0 c).arrAt 4 cfg0.N = attend q k cu (m ((c : Thread nD τ).loc main_arg2)) := by
  refine (dats m 0 c).arrAt_eq_of_covers 4 _ (by decide +kernel) fun t _ y => ?_
  blk_simp
  rw [after0_4]
  obtain ⟨u, rfl⟩ : ∃ u : S1x1x2048x128.Idx, u = y := ⟨y, rfl⟩
  have hu : u = ix4 0 0 (u 2) (u 3) := by
    funext a; refine Fin.ext ?_
    fin_cases a
    · exact Nat.lt_one_iff.mp (u 0).isLt
    · exact Nat.lt_one_iff.mp (u 1).isLt
    · rfl
    · rfl
  generalize (u 2 : Fin 2048) = s at hu
  generalize (u 3 : Fin 128) = d at hu
  subst hu
  refine (block m q k cu c hq hk hc t s d).trans ?_
  refine congrArg (attend q k cu _) ?_
  blk_ext [idx t]

end Cert.Attn

end
-- ==== Proof.Attn.Finite.lean ====
/- The precondition read: the queries, the keys and the cumulative logits are real numbers. -/
module

public import proofs.«01_k».proof.Proof.Attn.Array
public import proofs.«01_k».proof.Proof.Gen.Pre_finite_logits
public import Idealize.ShloMosaic.Lib.ReduceAll

@[expose] public section

set_option maxRecDepth 16384

noncomputable section

namespace Cert.Attn

open Idealize.ShloMosaic Idealize.ShloMosaic.TcCoe Idealize.ShloMosaic.StableHlo

theorem posInf : Ideal.ofBits .f32 0x7F800000#32 = ⊤ := by simp [Ideal.ofBits, Ideal.ieee]

/-- An extended real whose absolute value is below infinity is a real. -/
theorem real_of_abs {x : EReal} (h : Ideal.cmp .olt (max x (-x)) (Ideal.ofBits .f32 0x7F800000#32) = 1#1) : ∃ r : ℝ, x = (r : EReal) := by
  rw [posInf, Ideal.cmp] at h
  have hlt : max x (-x) < ⊤ := by
    by_contra hn
    simp only [decide_eq_false hn] at h
    exact absurd h (by decide)
  induction x using EReal.rec with
  | bot => simp at hlt
  | coe r => exact ⟨r, rfl⟩
  | top => simp at hlt

variable {q k v : FVec Ideal Cert.Pre_finite_logits.S16x8x2048x128 .bf16} {cu : FVec Ideal Cert.Pre_finite_logits.S16x8x2048 .f32}

theorem finite_of_pre (h : Cert.Pre_finite_logits.fn (F := Ideal) q k v cu = fun _ => 1#1) :
    (∃ q' : _ → ℝ, ∀ i, q i = ((q' i : ℝ) : EReal)) ∧ (∃ k' : _ → ℝ, ∀ i, k i = ((k' i : ℝ) : EReal))
      ∧ ∃ cu' : _ → ℝ, ∀ i, cu i = ((cu' i : ℝ) : EReal) := by
  have h0 := congrFun h (Shape.Idx.first (Cert.Pre_finite_logits.Facts.h_S_))
  dsimp only [Cert.Pre_finite_logits.fn] at h0
  obtain ⟨h12, h3⟩ := IntOp.andi_eq_one.1 h0
  obtain ⟨h1, h2⟩ := IntOp.andi_eq_one.1 h12
  have a1 := fun i => Host.reduce_andi_all _ _ _ _ _ h1 i
  have a2 := fun i => Host.reduce_andi_all _ _ _ _ _ h2 i
  have a3 := fun i => Host.reduce_andi_all _ _ _ _ _ h3 i
  choose q' hq using fun i => real_of_abs (a1 i)
  choose k' hk using fun i => real_of_abs (a2 i)
  choose cu' hc using fun i => real_of_abs (a3 i)
  exact ⟨⟨q', hq⟩, ⟨k', hk⟩, cu', hc⟩

end Cert.Attn

end
-- ==== Proof.Attn.Plain.lean ====
/- What the plain attention computes: at every token, head and dimension the softmax-weighted sum of the values. -/
module

public import proofs.«01_k».proof.Proof.Attn.Array
public import proofs.«01_k».proof.Proof.Gen.ReferenceIdeal.Read

@[expose] public section

set_option maxRecDepth 16384

noncomputable section

namespace Cert.Attn.Plain

open Idealize.ShloMosaic Idealize.ShloMosaic.TcCoe Idealize.ShloMosaic.Pointwise Idealize.ShloMosaic.StableHlo
open Cert.ReferenceIdeal Cert.ReferenceIdeal.Gen Cert.ReferenceIdeal.Read Idealize.SL.Sem

variable (xq xk xv : FVec Ideal S16x8x2048x128 .bf16) (xc : FVec Ideal S16x8x2048 .f32)
  (q k : S16x8x2048x128.Idx → ℝ) (cu : S16x8x2048.Idx → ℝ)

theorem bits_negInf : FloatOps.ofBits (F := Ideal) .f32 0xFF800000#32 = (⊥ : EReal) := negInf

theorem two : FloatOps.ofBits (F := Ideal) .f32 0x40000000#32 = ((2 : ℝ) : EReal) := by
  show Ideal.ofBits .f32 0x40000000#32 = _
  simp [Ideal.ofBits, Ideal.ieee]
  refine (EReal.coe_mul (8388608 : ℝ) _).symm.trans (congrArg _ ?_)
  norm_num

/-- The natural logarithm of two, taken when the program runs. -/
theorem log_two (i : S_.Idx) : val_main_v1 (F := Ideal) i = ((Real.log 2 : ℝ) : EReal) := by
  rw [val_main_v1_apply, val_main_cst_apply, two, Ideal.hostUnary_log_def, Ideal.log_coe, if_neg (by norm_num)]

theorem idx7 (b : Fin 16) (h : Fin 8) (t s : Fin 2048) : idx_main_v7 (idx_main_v8 (ix4 b h t s)) = ix3 b h t := by
  funext a; fin_cases a <;> rfl

theorem idx10 (b : Fin 16) (h : Fin 8) (t s : Fin 2048) : idx_main_v10 (idx_main_v11 (ix4 b h t s)) = ix3 b h s := by
  funext a; fin_cases a <;> rfl

theorem idx23 (b : Fin 16) (h : Fin 8) (t s : Fin 2048) : idx_main_v23 (idx_main_v24 (ix4 b h t s)) = ix3 b h t := by
  funext a; fin_cases a <;> rfl

theorem idx28 (b : Fin 16) (h : Fin 8) (t s : Fin 2048) : idx_main_v28 (idx_main_v29 (ix4 b h t s)) = ix3 b h t := by
  funext a; fin_cases a <;> rfl

theorem idx27 (b : Fin 16) (h : Fin 8) (t s : Fin 2048) : idx_main_v27 (ix3 b h t) s = ix4 b h t s := by
  funext a; fin_cases a <;> rfl

theorem lidx6 (b : Fin 16) (h : Fin 8) (t s : Fin 2048) (d : Fin 128) : lidx_main_v6 (ix4 b h t s) d = ix4 b h t d := by
  funext a; fin_cases a <;> rfl

theorem ridx6 (b : Fin 16) (h : Fin 8) (t s : Fin 2048) (d : Fin 128) : ridx_main_v6 (ix4 b h t s) d = ix4 b h s d := by
  funext a; fin_cases a <;> rfl

theorem lidx31 (b : Fin 16) (h : Fin 8) (t s : Fin 2048) (d : Fin 128) : lidx_main_v31 (ix4 b h t d) s = ix4 b h t s := by
  funext a; fin_cases a <;> rfl

theorem ridx31 (b : Fin 16) (h : Fin 8) (t s : Fin 2048) (d : Fin 128) : ridx_main_v31 (ix4 b h t d) s = ix4 b h s d := by
  funext a; fin_cases a <;> rfl

/-- One product of a query and a key. -/
theorem dot_apply (hq : ∀ i, xq i = ((q i : ℝ) : EReal)) (hk : ∀ i, xk i = ((k i : ℝ) : EReal))
    (b : Fin 16) (h : Fin 8) (t s : Fin 2048) : val_main_v6 (F := Ideal) xq xk (ix4 b h t s)
      = ((Real.log 2 * ∑ d : Fin 128, q (ix4 b h t d) * k (ix4 b h s d) : ℝ) : EReal) := by
  rw [val_main_v6_apply, Finset.mul_sum, coe_sum]
  refine Finset.sum_congr rfl fun d _ => ?_
  rw [lidx6, ridx6, val_main_v3_apply, val_main_v4_apply, val_main_v0_apply, val_main_v2_apply, log_two, hq, hk]
  rw [Ideal.mulf_def, Ideal.extf_def, Ideal.extf_def, ← EReal.coe_mul, ← EReal.coe_mul]
  exact congrArg _ (by ring)

/-- One score before the mask. -/
theorem logit_apply (hq : ∀ i, xq i = ((q i : ℝ) : EReal)) (hk : ∀ i, xk i = ((k i : ℝ) : EReal))
    (hc : ∀ i, xc i = ((cu i : ℝ) : EReal)) (b : Fin 16) (h : Fin 8) (t s : Fin 2048) :
    val_main_v12 (F := Ideal) xq xk xc (ix4 b h t s)
      = ((Real.log 2 * score q k cu b h t s.val + (cu (ix3 b h t) - cu (ix3 b h ⟨256 * (t.val / 256), by omega⟩)) : ℝ) : EReal) := by
  rw [val_main_v12_apply, val_main_v9_apply, dot_apply xq xk q k hq hk, val_main_v8_apply, val_main_v7_apply, val_main_v11_apply, val_main_v10_apply,
    idx7, idx10, hc, hc, Ideal.subf_def, Ideal.addf_def, ← EReal.coe_add, ← EReal.coe_sub, score, dif_pos s.isLt]
  refine congrArg _ ?_
  have h2 : Real.log 2 ≠ 0 := (Real.log_pos (by norm_num)).ne'
  field_simp
  ring

/-- One score after the mask. -/
theorem masked_apply (hq : ∀ i, xq i = ((q i : ℝ) : EReal)) (hk : ∀ i, xk i = ((k i : ℝ) : EReal))
    (hc : ∀ i, xc i = ((cu i : ℝ) : EReal)) (b : Fin 16) (h : Fin 8) (t s : Fin 2048) :
    val_main_v19 (F := Ideal) xq xk xc (ix4 b h t s) = if s.val < t.val + 1 then
      ((Real.log 2 * score q k cu b h t s.val + (cu (ix3 b h t) - cu (ix3 b h ⟨256 * (t.val / 256), by omega⟩)) : ℝ) : EReal) else ⊥ := by
  rw [val_main_v19_apply, logit_apply xq xk xc q k cu hq hk hc, val_main_call0_v2_apply, val_main_call0_v0_apply, val_main_cst_0_apply, bits_negInf,
    val_main_call0_v1_apply, val_main_v18_apply, val_main_v16_apply, val_main_v17_apply, val_main_v14_apply, val_main_v15_apply,
    val_main_v13_apply, val_main_v13_apply]
  have e : IntOp.cmpi .sge (BitVec.ofNat 32 t.val) (BitVec.ofNat 32 s.val) = BitVec.ofBool (decide (s.val ≤ t.val)) :=
    Idealize.ShloMosaic.WordCmp.cmpi_sge_ofNat (by omega) (by omega)
  refine (congrArg (fun p => Scalar.select p _ _) e).trans ?_
  by_cases hst : s.val ≤ t.val
  · rw [if_pos (Nat.lt_succ_of_le hst), decide_eq_true hst]; rfl
  · rw [if_neg (by omega), decide_eq_false hst]; rfl

/-- The greatest score of a row. -/
theorem top_apply (b : Fin 16) (h : Fin 8) (t : Fin 2048) : val_main_v20 (F := Ideal) xq xk xc (ix3 b h t)
    = Finset.univ.fold max ⊥ fun s : Fin 2048 => val_main_v19 (F := Ideal) xq xk xc (ix4 b h t s) := by
  unfold val_main_v20
  generalize val_main_v19 (F := Ideal) xq xk xc = y
  pointwise []
  rw [val_main_cst_1_apply, bits_negInf]

/-- The greatest score of a row, as the weights take it. -/
def top (b : Fin 16) (h : Fin 8) (t : Fin 2048) : EReal :=
  max ⊥ (Finset.univ.fold max ⊥ fun s : Fin 2048 => val_main_v19 (F := Ideal) xq xk xc (ix4 b h t s))

theorem exp_apply (b : Fin 16) (h : Fin 8) (t s : Fin 2048) : val_main_v26 (F := Ideal) xq xk xc (ix4 b h t s)
    = Ideal.exp (val_main_v19 (F := Ideal) xq xk xc (ix4 b h t s) - top xq xk xc b h t) := by
  rw [val_main_v26_apply, val_main_v25_apply, val_main_v24_apply, val_main_v23_apply, idx23, val_main_v22_apply, top_apply, val_main_v21_apply,
    val_main_cst_2_apply, bits_negInf, Ideal.hostUnary_exp_def, Ideal.subf_def, Ideal.maximumf_def, top]

theorem zero_bits : FloatOps.ofBits (F := Ideal) .f32 0x00000000#32 = (0 : EReal) := by
  show Ideal.ofBits .f32 0x00000000#32 = _
  simp [Ideal.ofBits, Ideal.ieee]

theorem prob_apply (b : Fin 16) (h : Fin 8) (t s : Fin 2048) : val_main_v30 (F := Ideal) xq xk xc (ix4 b h t s)
    = Ideal.div (Ideal.exp (val_main_v19 (F := Ideal) xq xk xc (ix4 b h t s) - top xq xk xc b h t))
      (∑ j : Fin 2048, Ideal.exp (val_main_v19 (F := Ideal) xq xk xc (ix4 b h t j) - top xq xk xc b h t)) := by
  rw [val_main_v30_apply, exp_apply, val_main_v29_apply, val_main_v28_apply, idx28, val_main_v27_apply, val_main_cst_3_apply, zero_bits, zero_add,
    Ideal.hostDivf_def]
  refine congrArg _ (Finset.sum_congr rfl fun j _ => ?_)
  rw [idx27, exp_apply]

theorem attend_eq (hq : ∀ i, xq i = ((q i : ℝ) : EReal)) (hk : ∀ i, xk i = ((k i : ℝ) : EReal))
    (hc : ∀ i, xc i = ((cu i : ℝ) : EReal)) : val_main_v32 (F := Ideal) xq xk xv xc = attend q k cu xv := by
  funext i
  obtain ⟨b, h, t, d, rfl⟩ : ∃ (b : Fin 16) (h : Fin 8) (t : Fin 2048) (d : Fin 128), i = ix4 b h t d := ⟨i 0, i 1, i 2, i 3, by
    funext a; fin_cases a <;> rfl⟩
  have e : attend q k cu xv (ix4 b h t d) = soft (score q k cu b h t) (value xv b h d) (t.val + 1) := rfl
  rw [e, val_main_v32_apply, val_main_v31_apply, Ideal.truncf_def,
    ← soft_natural (score q k cu b h t) (value xv b h d) (Nat.succ_pos t.val) (Nat.succ_le_of_lt t.isLt) _ _ (fun s => xv (ix4 b h s d))
      (fun s => masked_apply xq xk xc q k cu hq hk hc b h t s) (fun s => by rw [value, dif_pos s.isLt]) (M := top xq xk xc b h t) rfl]
  refine Finset.sum_congr rfl fun s _ => ?_
  rw [lidx31, ridx31, prob_apply, val_main_v5_apply, Ideal.extf_def]

end Cert.Attn.Plain

end
-- ==== Proof.Attn.Equation.lean ====
/- The attention equation: the kernel and the plain attention end with equal outputs. -/
module

public import proofs.«01_k».proof.Defs
public import proofs.«01_k».proof.Proof.Attn.Finite
public import proofs.«01_k».proof.Proof.Attn.Plain

@[expose] public section

noncomputable section

namespace Cert.Attn

open Idealize.ShloMosaic Idealize.ShloMosaic.TcCoe Idealize.SL.Sem

theorem algebraic : Cert.algebraic_KernelIdeal_ReferenceIdeal_pre_finite_logits := fun m ρ m' ρ' hpre hag => by
  choose q hq using fun c => (finite_of_pre (hpre c)).1
  choose k hk using fun c => (finite_of_pre (hpre c)).2.1
  choose cu hc using fun c => (finite_of_pre (hpre c)).2.2
  refine ⟨fun c => attend (q c) (k c) (cu c) (m ((c.tc : Thread Cert.KernelIdeal.nD Cert.KernelIdeal.τ).loc Cert.KernelIdeal.main_arg2)),
    (θ_run _ _ _).mono (fun _ h c => ⟨(h c).1.trans (final m (q c) (k c) (cu c) c (hq c) (hk c) (hc c)), (h c).2⟩)
      (Cert.KernelIdeal.Value.run_blocks m ρ),
    (θ_run _ _ _).mono (fun _ h c => ⟨(h c).1.trans ((Cert.ReferenceIdeal.Read.val_main_v32_eq m' c).trans ?_), (h c).2⟩)
      (Cert.ReferenceIdeal.Value.run m' ρ')⟩
  obtain ⟨a0, a1, a2, a3⟩ := hag c
  rw [a0, a1, a2, a3]
  exact Plain.attend_eq _ _ _ _ (q c) (k c) (cu c) (hq c) (hk c) (hc c)

end Cert.Attn

end
-- ==== Proof.Ffn.Up.lean ====
/- The first product of the feed-forward part: what one block computes, and the whole output. -/
module

public import proofs.«01_k».proof.Proof.Gen.KernelUpIdeal.Value
public import Idealize.ShloMosaic.Lib.Pipeline.ValueKit
public import Idealize.ShloMosaic.Lib.Pointwise

@[expose] public section

set_option maxRecDepth 16384

noncomputable section

namespace Cert.Up

open Idealize.ShloMosaic Idealize.ShloMosaic.TcCoe Idealize.ShloMosaic.Pointwise Idealize.ShloMosaic.Pipeline
open Cert.KernelUpIdeal Cert.KernelUpIdeal.Gen Idealize.SL.Sem

/-- Column `n` of the product of row `r`. -/
def col (h : S32768x2048.Idx → EReal) (w : S1x2048x11264.Idx → EReal) (r : Fin 32768) (n : Fin 11264) : EReal :=
  ∑ d : Fin 2048, h (ix2 r d) * w (ix3 0 d n)

/-- The gated product at row `r` and column `n`. -/
def gate (h : S32768x2048.Idx → EReal) (w : S1x2048x11264.Idx → EReal) (r : Fin 32768) (n : Fin 5632) : EReal :=
  col h w r ⟨n.val, by omega⟩ * Ideal.logistic (col h w r ⟨n.val, by omega⟩) * col h w r ⟨5632 + n.val, by omega⟩

/-- The gated product. -/
def gated (h : S32768x2048.Idx → EReal) (w : S1x2048x11264.Idx → EReal) (i : S32768x5632.Idx) : EReal := gate h w (i 0) (i 1)

/-- One entry of a block. -/
theorem pay_apply (h : FVec Ideal S1024x2048 .bf16) (wg wu : FVec Ideal S2048x512 .bf16) (r : Fin 1024) (n : Fin 512) :
    k0_pay1 h wg wu (ix2 r n) = (∑ d : Fin 2048, h (ix2 r d) * wg (ix2 d n)) * Ideal.logistic (∑ d : Fin 2048, h (ix2 r d) * wg (ix2 d n))
      * ∑ d : Fin 2048, h (ix2 r d) * wu (ix2 d n) := by
  pointwise [k0_pay1]

variable (m : (ℓ : Loc nD τ sig) → Buf (Elt Ideal) ℓ)

theorem idx : ∀ t : Fin cfg0.N, win0_0.index t = ![t.val / 11, 0] ∧ win0_1.index t = ![0, t.val % 11]
    ∧ win0_2.index t = ![0, t.val % 11 + 11] ∧ win0_3.index t = ![t.val / 11, t.val % 11] :=
  (by decide +kernel : ∀ t : Fin grid0.N, _)

theorem row_lt (t : Fin cfg0.N) (r : Fin 1024) : 1024 * (t.val / 11) + r.val < 32768 := by
  have := t.isLt; change t.val < 352 at this; omega

theorem read_h (c : Dev nD) (t : Fin cfg0.N) (r : Fin 1024) (d : Fin 2048) :
    iblk m c 0 t (ix2 r d) = m ((c : Thread nD τ).loc main_arg0) (ix2 ⟨1024 * (t.val / 11) + r.val, row_lt t r⟩ d) := by
  blk_point [iblk, V, idx t]

theorem col_lt (t : Fin cfg0.N) (n : Fin 512) : 512 * (t.val % 11) + n.val < 5632 := by omega

theorem read_g (c : Dev nD) (t : Fin cfg0.N) (d : Fin 2048) (n : Fin 512) :
    iblk m c 1 t (ix2 d n) = m ((c : Thread nD τ).loc main_arg1) (ix3 0 d ⟨512 * (t.val % 11) + n.val, by omega⟩) := by
  blk_simp [iblk, idx t]
  entry_read
  pointwise []
  blk_ext [idx t]

theorem read_u (c : Dev nD) (t : Fin cfg0.N) (d : Fin 2048) (n : Fin 512) :
    iblk m c 2 t (ix2 d n) = m ((c : Thread nD τ).loc main_arg1) (ix3 0 d ⟨5632 + (512 * (t.val % 11) + n.val), by omega⟩) := by
  blk_simp [iblk, idx t]
  entry_read
  pointwise []
  blk_ext [idx t]

theorem block (c : Dev nD) (t : Fin cfg0.N) (r : Fin 1024) (n : Fin 512) :
    k0_pay1 (iblk m c 0 t) (iblk m c 1 t) (iblk m c 2 t) (ix2 r n)
      = gate (m ((c : Thread nD τ).loc main_arg0)) (m ((c : Thread nD τ).loc main_arg1)) ⟨1024 * (t.val / 11) + r.val, row_lt t r⟩
        ⟨512 * (t.val % 11) + n.val, col_lt t n⟩ := by
  rw [pay_apply]
  simp only [read_h, read_g, read_u]
  unfold gate col
  rfl

theorem final (c : Dev nD) :
    (dats m 0 c).arrAt 3 cfg0.N = gated (m ((c : Thread nD τ).loc main_arg0)) (m ((c : Thread nD τ).loc main_arg1)) := by
  refine (dats m 0 c).arrAt_eq_of_covers 3 _ (by decide +kernel) fun t _ y => ?_
  blk_simp
  rw [after0_3]
  frame_out
  obtain ⟨u, rfl⟩ : ∃ u : S1024x512.Idx, u = y := ⟨y, rfl⟩
  have hu : u = ix2 (u 0) (u 1) := by funext a; fin_cases a <;> rfl
  generalize (u 0 : Fin 1024) = r at hu
  generalize (u 1 : Fin 512) = n at hu
  subst hu
  refine (block m c t r n).trans ?_
  refine congrArg (gated _ _) (a₁ := ix2 ⟨1024 * (t.val / 11) + r.val, row_lt t r⟩ ⟨512 * (t.val % 11) + n.val, col_lt t n⟩) ?_
  blk_ext [idx t]

end Cert.Up

end
-- ==== Proof.Ffn.UpEquation.lean ====
/- The gated product's equation: the kernel and the plain program end with equal outputs. -/
module

public import proofs.«01_k».proof.Defs
public import proofs.«01_k».proof.Proof.Ffn.Up
public import proofs.«01_k».proof.Proof.Gen.ReferenceUpIdeal.Read

@[expose] public section

set_option maxRecDepth 16384

noncomputable section

namespace Cert.Up

open Idealize.ShloMosaic Idealize.ShloMosaic.TcCoe Idealize.ShloMosaic.Pointwise Idealize.SL.Sem
open Cert.ReferenceUpIdeal Cert.ReferenceUpIdeal.Gen Cert.ReferenceUpIdeal.Read

theorem one_bits : FloatOps.ofBits (F := Ideal) .f32 0x3F800000#32 = (1 : EReal) := by
  show Ideal.ofBits .f32 0x3F800000#32 = _
  simp [Ideal.ofBits, Ideal.ieee]
  refine (EReal.coe_mul (8388608 : ℝ) _).symm.trans ((congrArg _ ?_).trans EReal.coe_one)
  norm_num

variable (h : FVec Ideal S32768x2048 .bf16) (w : FVec Ideal S1x2048x11264 .f32)

theorem col_apply (r : Fin 32768) (n : Fin 11264) : val_main_v2 (F := Ideal) h w (ix2 r n) = col h w r n := by
  rw [val_main_v2_apply]
  refine Finset.sum_congr rfl fun d _ => ?_
  rw [val_main_v0_apply, val_main_v1_apply, Ideal.extf_def]
  refine congrArg₂ (fun a b => h a * w b) ?_ ?_
  · funext a; fin_cases a <;> rfl
  · funext a; refine Fin.ext ?_
    fin_cases a
    · rfl
    · show (d.val * 11264 + n.val) / 11264 % 2048 = d.val; omega
    · show (d.val * 11264 + n.val) % 11264 = n.val; omega

/-- The plain program's output. -/
theorem plain : val_main_v7 (F := Ideal) h w = gated h w := by
  funext u
  obtain ⟨r, n, rfl⟩ : ∃ (r : Fin 32768) (n : Fin 5632), u = ix2 r n := ⟨u 0, u 1, by funext a; fin_cases a <;> rfl⟩
  have eg : val_main_v3 (F := Ideal) h w (ix2 r n) = col h w r ⟨n.val, by omega⟩ := by
    rw [val_main_v3_apply, ← col_apply]
    refine congrArg _ ?_
    funext a; fin_cases a <;> rfl
  have eu : val_main_v4 (F := Ideal) h w (ix2 r n) = col h w r ⟨5632 + n.val, by omega⟩ := by
    rw [val_main_v4_apply, ← col_apply]
    refine congrArg _ ?_
    funext a; fin_cases a <;> rfl
  rw [val_main_v7_apply, val_main_v6_apply, val_main_v5_apply, val_main_call0_v5_apply, val_main_call0_v4_apply, val_main_call0_cst_0_apply,
    val_main_call0_v3_apply, val_main_call0_v2_apply, val_main_call0_cst_apply, val_main_call0_v1_apply, val_main_call0_v0_apply, eg, eu, one_bits]
  rfl

theorem algebraic : Cert.algebraic_KernelUpIdeal_ReferenceUpIdeal := fun m ρ m' ρ' _ hag => by
  refine ⟨fun c => gated (m ((c.tc : Thread Cert.KernelUpIdeal.nD Cert.KernelUpIdeal.τ).loc Cert.KernelUpIdeal.main_arg0))
      (m ((c.tc : Thread Cert.KernelUpIdeal.nD Cert.KernelUpIdeal.τ).loc Cert.KernelUpIdeal.main_arg1)),
    (θ_run _ _ _).mono (fun _ h c => ⟨(h c).1.trans (final m c), (h c).2⟩) (Cert.KernelUpIdeal.Value.run_blocks m ρ),
    (θ_run _ _ _).mono (fun _ h c => ⟨(h c).1.trans ((val_main_v7_eq _ _).trans ?_), (h c).2⟩) (Cert.ReferenceUpIdeal.Value.run m' ρ')⟩
  obtain ⟨a0, a1⟩ := hag c
  rw [a0, a1]
  exact plain _ _

end Cert.Up

end
-- ==== Proof.Ffn.Down.lean ====
/- The second product of the feed-forward part: what one block computes, and the whole output. -/
module

public import proofs.«01_k».proof.Proof.Gen.KernelDownIdeal.Value
public import Idealize.ShloMosaic.Lib.Pipeline.ValueKit
public import Idealize.ShloMosaic.Lib.Pointwise

@[expose] public section

set_option maxRecDepth 16384

noncomputable section

namespace Cert.Down

open Idealize.ShloMosaic Idealize.ShloMosaic.TcCoe Idealize.ShloMosaic.Pointwise Idealize.ShloMosaic.Pipeline
open Cert.KernelDownIdeal Cert.KernelDownIdeal.Gen Idealize.SL.Sem

/-- Row `r`, column `n` of the layer's result: the residual plus the gated product, the gate being that of the row's sequence. -/
def outAt (a : S32768x5632.Idx → EReal) (w : S1x5632x2048.Idx → EReal) (x : S32768x2048.Idx → EReal) (g : S16x2048.Idx → EReal)
    (r : Fin 32768) (n : Fin 2048) : EReal :=
  x (ix2 r n) + g (ix2 ⟨r.val / 2048, by omega⟩ n) * ∑ k : Fin 5632, a (ix2 r k) * w (ix3 0 k n)

/-- The layer's result. -/
def out (a : S32768x5632.Idx → EReal) (w : S1x5632x2048.Idx → EReal) (x : S32768x2048.Idx → EReal) (g : S16x2048.Idx → EReal)
    (i : S32768x2048.Idx) : EReal := outAt a w x g (i 0) (i 1)

/-- One entry of a block. -/
theorem pay_apply (x : FVec Ideal S1024x512 .f32) (g : FVec Ideal S1x1x512 .f32) (a : FVec Ideal S1024x5632 .bf16)
    (w : FVec Ideal S5632x512 .bf16) (r : Fin 1024) (n : Fin 512) :
    k0_pay1 x g a w (ix2 r n) = x (ix2 r n) + g (ix3 0 0 n) * ∑ k : Fin 5632, a (ix2 r k) * w (ix2 k n) := by
  pointwise [k0_pay1]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 8, 0, t.val % 4] ∧ win0_4.index t = ![t.val / 4, t.val % 4] :=
  (by decide +kernel : ∀ t : Fin grid0.N, _)

theorem row_lt (t : Fin cfg0.N) (r : Fin 1024) : 1024 * (t.val / 4) + r.val < 32768 := by
  have := t.isLt; change t.val < 128 at this; omega

theorem col_lt (t : Fin cfg0.N) (n : Fin 512) : 512 * (t.val % 4) + n.val < 2048 := by omega

theorem read_a (c : Dev nD) (t : Fin cfg0.N) (r : Fin 1024) (k : Fin 5632) :
    iblk m c 0 t (ix2 r k) = m ((c : Thread nD τ).loc main_arg0) (ix2 ⟨1024 * (t.val / 4) + r.val, row_lt t r⟩ k) := by
  blk_point [iblk, V, idx t]

theorem read_w (c : Dev nD) (t : Fin cfg0.N) (k : Fin 5632) (n : Fin 512) :
    iblk m c 1 t (ix2 k n) = m ((c : Thread nD τ).loc main_arg1) (ix3 0 k ⟨512 * (t.val % 4) + n.val, col_lt t n⟩) := by
  blk_simp [iblk, idx t]
  entry_read
  pointwise []
  blk_ext [idx t]

theorem read_x (c : Dev nD) (t : Fin cfg0.N) (r : Fin 1024) (n : Fin 512) :
    iblk m c 2 t (ix2 r n) = m ((c : Thread nD τ).loc main_arg2) (ix2 ⟨1024 * (t.val / 4) + r.val, row_lt t r⟩ ⟨512 * (t.val % 4) + n.val, col_lt t n⟩) := by
  blk_point [iblk, V, idx t]

theorem read_g (c : Dev nD) (t : Fin cfg0.N) (r : Fin 1024) (n : Fin 512) :
    iblk m c 3 t (ix3 0 0 n) = m ((c : Thread nD τ).loc main_arg3)
      (ix2 ⟨(1024 * (t.val / 4) + r.val) / 2048, by have := row_lt t r; omega⟩ ⟨512 * (t.val % 4) + n.val, col_lt t n⟩) := by
  blk_simp [iblk, idx t]
  entry_read
  pointwise []
  blk_ext [idx t]

theorem block (c : Dev nD) (t : Fin cfg0.N) (r : Fin 1024) (n : Fin 512) :
    k0_pay1 (iblk m c 2 t) (iblk m c 3 t) (iblk m c 0 t) (iblk m c 1 t) (ix2 r n)
      = outAt (m ((c : Thread nD τ).loc main_arg0)) (m ((c : Thread nD τ).loc main_arg1)) (m ((c : Thread nD τ).loc main_arg2))
        (m ((c : Thread nD τ).loc main_arg3)) ⟨1024 * (t.val / 4) + r.val, row_lt t r⟩ ⟨512 * (t.val % 4) + n.val, col_lt t n⟩ := by
  rw [pay_apply, read_x, read_g m c t r n]
  simp only [read_a, read_w]
  rfl

theorem final (c : Dev nD) :
    (dats m 0 c).arrAt 4 cfg0.N = out (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  obtain ⟨u, rfl⟩ : ∃ u : S1024x512.Idx, u = y := ⟨y, rfl⟩
  have hu : u = ix2 (u 0) (u 1) := by funext a; fin_cases a <;> rfl
  generalize (u 0 : Fin 1024) = r at hu
  generalize (u 1 : Fin 512) = n at hu
  subst hu
  refine (block m c t r n).trans ?_
  refine congrArg (out _ _ _ _) (a₁ := ix2 ⟨1024 * (t.val / 4) + r.val, row_lt t r⟩ ⟨512 * (t.val % 4) + n.val, col_lt t n⟩) ?_
  blk_ext [idx t]

end Cert.Down

end
-- ==== Proof.Ffn.DownEquation.lean ====
/- The second product's equation: the kernel and the plain program end with equal outputs. -/
module

public import proofs.«01_k».proof.Defs
public import proofs.«01_k».proof.Proof.Ffn.Down
public import proofs.«01_k».proof.Proof.Gen.ReferenceDownIdeal.Read

@[expose] public section

set_option maxRecDepth 16384

noncomputable section

namespace Cert.Down

open Idealize.ShloMosaic Idealize.ShloMosaic.TcCoe Idealize.ShloMosaic.Pointwise Idealize.SL.Sem
open Cert.ReferenceDownIdeal Cert.ReferenceDownIdeal.Gen Cert.ReferenceDownIdeal.Read

variable (a : FVec Ideal S32768x5632 .bf16) (w : FVec Ideal S1x5632x2048 .f32) (x : FVec Ideal S32768x2048 .f32) (g : FVec Ideal S16x2048 .f32)

theorem dot_apply (r : Fin 32768) (n : Fin 2048) :
    val_main_v2 (F := Ideal) a w (ix2 r n) = ∑ k : Fin 5632, a (ix2 r k) * w (ix3 0 k n) := by
  rw [val_main_v2_apply]
  refine Finset.sum_congr rfl fun k _ => ?_
  rw [val_main_v0_apply, val_main_v1_apply, Ideal.extf_def]
  refine congrArg₂ (fun i j => a i * w j) ?_ ?_
  · funext a; fin_cases a <;> rfl
  · funext a; refine Fin.ext ?_
    fin_cases a
    · rfl
    · show (k.val * 2048 + n.val) / 2048 % 5632 = k.val; omega
    · show (k.val * 2048 + n.val) % 2048 = n.val; omega

theorem idx9 (r : Fin 32768) (n : Fin 2048) : idx_main_v9 (ix2 r n) = ix3 ⟨r.val / 2048, by omega⟩ ⟨r.val % 2048, by omega⟩ n := by
  funext a; refine Fin.ext ?_
  fin_cases a
  · show (r.val * 2048 + n.val) / 4194304 = r.val / 2048; omega
  · show (r.val * 2048 + n.val) / 2048 % 2048 = r.val % 2048; omega
  · show (r.val * 2048 + n.val) % 2048 = n.val; omega

theorem idx3 (r : Fin 32768) (n : Fin 2048) : idx_main_v3 (ix3 ⟨r.val / 2048, by omega⟩ ⟨r.val % 2048, by omega⟩ n) = ix2 r n := by
  funext a; refine Fin.ext ?_
  fin_cases a
  · show ((r.val / 2048 * 2048 + r.val % 2048) * 2048 + n.val) / 2048 = r.val; omega
  · show ((r.val / 2048 * 2048 + r.val % 2048) * 2048 + n.val) % 2048 = n.val; omega

theorem idx5 (r : Fin 32768) (n : Fin 2048) : idx_main_v5 (ix3 ⟨r.val / 2048, by omega⟩ ⟨r.val % 2048, by omega⟩ n) = ix2 r n := by
  funext a; refine Fin.ext ?_
  fin_cases a
  · show ((r.val / 2048 * 2048 + r.val % 2048) * 2048 + n.val) / 2048 = r.val; omega
  · show ((r.val / 2048 * 2048 + r.val % 2048) * 2048 + n.val) % 2048 = n.val; omega

theorem gate_apply (b : Fin 16) (s : Fin 2048) (n : Fin 2048) : val_main_v6 (F := Ideal) g (ix3 b s n) = g (ix2 b n) := by
  rw [val_main_v6_apply, val_main_v4_apply]
  refine congrArg g ?_
  funext a; fin_cases a <;> rfl

/-- The plain program's output. -/
theorem plain : val_main_v9 (F := Ideal) a w x g = out a w x g := by
  funext u
  obtain ⟨r, n, rfl⟩ : ∃ (r : Fin 32768) (n : Fin 2048), u = ix2 r n := ⟨u 0, u 1, by funext a; fin_cases a <;> rfl⟩
  rw [val_main_v9_apply, idx9, val_main_v8_apply, val_main_v3_apply, idx3, val_main_v7_apply, val_main_v5_apply, idx5, dot_apply, gate_apply]
  rfl

theorem algebraic : Cert.algebraic_KernelDownIdeal_ReferenceDownIdeal := fun m ρ m' ρ' _ hag => by
  refine ⟨fun c => out (m ((c.tc : Thread Cert.KernelDownIdeal.nD Cert.KernelDownIdeal.τ).loc Cert.KernelDownIdeal.main_arg0))
      (m ((c.tc : Thread Cert.KernelDownIdeal.nD Cert.KernelDownIdeal.τ).loc Cert.KernelDownIdeal.main_arg1))
      (m ((c.tc : Thread Cert.KernelDownIdeal.nD Cert.KernelDownIdeal.τ).loc Cert.KernelDownIdeal.main_arg2))
      (m ((c.tc : Thread Cert.KernelDownIdeal.nD Cert.KernelDownIdeal.τ).loc Cert.KernelDownIdeal.main_arg3)),
    (θ_run _ _ _).mono (fun _ h c => ⟨(h c).1.trans (final m c), (h c).2⟩) (Cert.KernelDownIdeal.Value.run_blocks m ρ),
    (θ_run _ _ _).mono (fun _ h c => ⟨(h c).1.trans ((val_main_v9_eq _ _ _ _).trans ?_), (h c).2⟩) (Cert.ReferenceDownIdeal.Value.run m' ρ')⟩
  obtain ⟨a0, a1, a2, a3⟩ := hag c
  rw [a0, a1, a2, a3]
  exact plain _ _ _ _

end Cert.Down

end
-- ==== Proof.Norm.lean ====
/- Root mean square normalisation of a row of numbers, and its modulation by a scale and a shift. -/
module

public import Idealize.ShloMosaic.PureOps.Ideal
public import Idealize.ShloMosaic.Lib.Pointwise

@[expose] public section

noncomputable section

namespace Cert.Norm

open Idealize.ShloMosaic

/-- The inverse root of a mean square: `s` is the sum of the squares, `b` the word of the number of summands; 1e-6 is added to the mean. -/
def inv (b : BitVec 32) (s : EReal) : EReal :=
  Ideal.rsqrt (Ideal.div s (Ideal.ofBits .f32 b) + Ideal.ofBits .f32 0x358637BD#32)

/-- Entry `k` of the normalised row with gains `g`. -/
def rms {n : Nat} (b : BitVec 32) (v g : Fin n → EReal) (k : Fin n) : EReal := v k * inv b (∑ j, v j * v j) * g k

/-- Entry `k` of the normalised row of 2048 numbers, modulated by a scale and a shift. -/
def modulated (v g sc sh : Fin 2048 → EReal) (k : Fin 2048) : EReal := rms 0x45000000#32 v g k * (1 + sc k) + sh k

end Cert.Norm

end
-- ==== Proof.Out.Block.lean ====
/- The output product with the residual: what one block computes. -/
module

public import proofs.«01_k».proof.Proof.Norm
public import proofs.«01_k».proof.Proof.Gen.KernelOutIdeal.Frame
public import Idealize.ShloMosaic.Lib.Pipeline.ValueKit
public import Idealize.ShloMosaic.Lib.Pointwise

@[expose] public section

set_option maxRecDepth 16384

noncomputable section

namespace Cert.Out

open Idealize.ShloMosaic Idealize.ShloMosaic.TcCoe Idealize.ShloMosaic.Pointwise Idealize.ShloMosaic.Pipeline
open Cert.KernelOutIdeal Cert.KernelOutIdeal.Gen Idealize.SL.Sem Cert.Norm

/-- Entry `k` of the mixed row: the normalised recurrent group, then the normalised heads. -/
def mixed (y : Fin 1024 → EReal) (a : Fin 8 → Fin 128 → EReal) (gy ga : Fin 1024 → EReal) (k : Fin 2048) : EReal :=
  if h : k.val < 1024 then rms 0x44800000#32 y gy ⟨k.val, h⟩
  else a ⟨(k.val - 1024) / 128, by omega⟩ ⟨(k.val - 1024) % 128, by omega⟩ * inv 0x44800000#32 (∑ h, ∑ d, a h d * a h d)
    * ga ⟨k.val - 1024, by omega⟩

/-- Entry `n` of the row after the residual. -/
def resid (mx : Fin 2048 → EReal) (x g : Fin 2048 → EReal) (w : Fin 2048 → Fin 2048 → EReal) (n : Fin 2048) : EReal :=
  x n + g n * ∑ k, mx k * w k n

theorem pay1_apply (y : Vec Ideal S512x1024 .bf16) (g : Vec Ideal S1x1024 .f32) (r : Fin 512) (k : Fin 1024) :
    k0_pay1 (F := Ideal) y g (ix2 r k) = rms 0x44800000#32 (fun k => y (ix2 r k)) (fun k => g (ix2 0 k)) k := by
  pointwise [k0_pay1]; rfl

theorem pay15_apply (mx : FVec Ideal S512x2048 .bf16) (x : FVec Ideal S512x2048 .f32) (g : FVec Ideal S1x1x2048 .f32) (w : FVec Ideal S2048x2048 .bf16)
    (r : Fin 512) (n : Fin 2048) :
    k0_pay15 mx x g w (ix2 r n)
      = resid (fun k => mx (ix2 r k)) (fun n => x (ix2 r n)) (fun n => g (ix3 0 0 n)) (fun k n => w (ix2 k n)) n := by
  pointwise [k0_pay15]; rfl

theorem pay16_apply (mx : FVec Ideal S512x2048 .bf16) (x : FVec Ideal S512x2048 .f32) (g : FVec Ideal S1x1x2048 .f32) (w : FVec Ideal S2048x2048 .bf16)
    (gf : FVec Ideal S1x2048 .f32) (sc sh : FVec Ideal S1x1x2048 .f32) (r : Fin 512) (n : Fin 2048) :
    k0_pay16 mx x g w gf sc sh (ix2 r n) = modulated (fun n => k0_pay15 mx x g w (ix2 r n)) (fun n => gf (ix2 0 n))
      (fun n => sc (ix3 0 0 n)) (fun n => sh (ix3 0 0 n)) n := by
  unfold k0_pay16
  generalize k0_pay15 mx x g w = x1
  pointwise []; rfl

/-- Head `h` of a block of the heads. -/
theorem head_ld (a : Vec Ideal S1x8x512x128 .bf16) (h : Fin 8) (off : Fin 4 → Nat) (ho : off = ![0, h.val, 0, 0]) (hs) (r : Fin 512) (d : Fin 128) :
    View.ld a (Rect.unit (s := S1x8x512x128) off S1x1x512x128.size hs) (ix4 0 0 r d) = a (ix4 0 h r d) := by
  subst ho
  refine View.ld_unit_apply_of a _ _ _ _ _ fun i => ?_
  fin_cases i <;> simp [ix4]

/-- The gains of head `h`. -/
theorem gain_ld (g : Vec Ideal S1x1024 .f32) (h : Fin 8) (off : Fin 2 → Nat) (ho : off = ![0, 128 * h.val]) (hs) (d : Fin 128) :
    View.ld g (Rect.unit (s := S1x1024) off S1x128.size hs) (ix2 0 d) = g (ix2 0 ⟨128 * h.val + d.val, by omega⟩) := by
  subst ho
  refine View.ld_unit_apply_of g _ _ _ _ _ fun i => ?_
  fin_cases i <;> simp [ix2]

variable (x0 : Vec Ideal S512x1024 .bf16) (x1 : Vec Ideal S1x8x512x128 .bf16) (x2 : Vec Ideal S512x2048 .f32) (x3 : Vec Ideal S2048x2048 .bf16)
  (x4 x5 : Vec Ideal S1x1024 .f32) (x6 : Vec Ideal S1x1x2048 .f32) (x7 : Vec Ideal S1x2048 .f32) (x8 x9 : Vec Ideal S1x1x2048 .f32)

theorem mix_rec (r : Fin 512) (k : Fin 1024) :
    k0_pay22 x0 x1 x2 x3 x4 x5 x6 x7 x8 x9 (ix2 r ⟨k.val, by omega⟩) = rms 0x44800000#32 (fun k => x0 (ix2 r k)) (fun k => x4 (ix2 0 k)) k := by
  unfold k0_pay22
  pointwise [k0_pay14]
  rw [pay1_apply, View.ld_unit_zero (S := S512x1024) (by funext a; fin_cases a <;> rfl), View.ld_unit_zero (S := S1x1024) (by funext a; fin_cases a <;> rfl)]

/-- The sum of the squares over the heads, column by column. -/
theorem heads_sq (f : Fin 8 → Fin 128 → EReal) :
    (∑ d, (f 0 d * f 0 d + f 1 d * f 1 d + f 2 d * f 2 d + f 3 d * f 3 d + f 4 d * f 4 d + f 5 d * f 5 d + f 6 d * f 6 d + f 7 d * f 7 d))
      = ∑ h, ∑ d, f h d * f h d := by
  rw [Finset.sum_comm]
  simp only [Fin.sum_univ_eight]

set_option maxHeartbeats 4000000 in
theorem mix_att (r : Fin 512) (h : Fin 8) (d : Fin 128) :
    k0_pay22 x0 x1 x2 x3 x4 x5 x6 x7 x8 x9 (ix2 r ⟨1024 + (128 * h.val + d.val), by omega⟩)
      = x1 (ix4 0 h r d) * inv 0x44800000#32 (∑ h, ∑ d, x1 (ix4 0 h r d) * x1 (ix4 0 h r d)) * x5 (ix2 0 ⟨128 * h.val + d.val, by omega⟩) := by
  unfold k0_pay22
  fin_cases h <;>
    pointwise [k0_pay14, k0_pay12, k0_pay17, k0_pay18, k0_pay19, k0_pay20, k0_pay21, k0_pay2, k0_pay3, k0_pay4, k0_pay5, k0_pay6, k0_pay7, k0_pay8, k0_pay9,
      k0_pay10, k0_pay11, k0_pay13] <;>
    (try split_ifs) <;> first
    | omega
    | exact congrArg₂ (· * ·) (congrArg₂ (· * ·) (congrArg (fun j => x1 (ix4 0 _ r j)) (Fin.ext (by simp <;> omega)))
        (congrArg (inv 0x44800000#32) (heads_sq fun h d => x1 (ix4 0 h r d)))) (congrArg (fun j => x5 (ix2 0 j)) (Fin.ext (by simp <;> omega)))

/-- The mixed row of a block, entry by entry. -/
theorem mix_apply (r : Fin 512) (k : Fin 2048) :
    k0_pay22 x0 x1 x2 x3 x4 x5 x6 x7 x8 x9 (ix2 r k)
      = mixed (fun k => x0 (ix2 r k)) (fun h d => x1 (ix4 0 h r d)) (fun k => x4 (ix2 0 k)) (fun k => x5 (ix2 0 k)) k := by
  unfold mixed
  split_ifs with hk
  · exact mix_rec x0 x1 x2 x3 x4 x5 x6 x7 x8 x9 r ⟨k.val, hk⟩
  · have e : k = ⟨1024 + (128 * ((k.val - 1024) / 128) + (k.val - 1024) % 128), by omega⟩ := Fin.ext (by simp only; omega)
    refine (congrArg (fun k => k0_pay22 x0 x1 x2 x3 x4 x5 x6 x7 x8 x9 (ix2 r k)) e).trans
      ((mix_att x0 x1 x2 x3 x4 x5 x6 x7 x8 x9 r ⟨(k.val - 1024) / 128, by omega⟩ ⟨(k.val - 1024) % 128, by omega⟩).trans ?_)
    exact congrArg (fun j => _ * _ * x5 (ix2 0 j)) (Fin.ext (by simp only; omega))

/-- One row of the block: the row after the residual, of the mixed row. -/
def residRow (r : Fin 512) : Fin 2048 → EReal :=
  resid (mixed (fun k => x0 (ix2 r k)) (fun h d => x1 (ix4 0 h r d)) (fun k => x4 (ix2 0 k)) (fun k => x5 (ix2 0 k)))
    (fun n => x2 (ix2 r n)) (fun n => x6 (ix3 0 0 n)) (fun k n => x3 (ix2 k n))

theorem hz2 : (![0, 0] : Fin 2 → Nat) = fun _ => 0 := by funext a; fin_cases a <;> rfl

theorem hz3 : (![0, 0, 0] : Fin 3 → Nat) = fun _ => 0 := by funext a; fin_cases a <;> rfl

theorem out10_apply (r : Fin 512) (n : Fin 2048) :
    out0_10 x0 x1 x2 x3 x4 x5 x6 x7 x8 x9 (ix2 r n) = residRow x0 x1 x2 x3 x4 x5 x6 r n := by
  unfold out0_10
  rw [View.canon_unit_zero hz2, View.ld_unit_zero (S := S512x2048) hz2, View.ld_unit_zero (S := S1x1x2048) hz3,
    View.ld_unit_zero (S := S2048x2048) hz2, pay15_apply]
  simp only [mix_apply]
  rfl

theorem out11_apply (r : Fin 512) (n : Fin 2048) :
    out0_11 x0 x1 x2 x3 x4 x5 x6 x7 x8 x9 (ix2 r n) = modulated (residRow x0 x1 x2 x3 x4 x5 x6 r)
      (fun n => x7 (ix2 0 n)) (fun n => x8 (ix3 0 0 n)) (fun n => x9 (ix3 0 0 n)) n := by
  unfold out0_11
  rw [View.canon_unit_zero hz2, View.ld_unit_zero (S := S512x2048) hz2, View.ld_unit_zero (S := S1x1x2048) hz3,
    View.ld_unit_zero (S := S2048x2048) hz2, View.ld_unit_zero (S := S1x2048) hz2, View.ld_unit_zero (S := S1x1x2048) hz3,
    View.ld_unit_zero (S := S1x1x2048) hz3, pay16_apply]
  simp only [pay15_apply, mix_apply]
  rfl

end Cert.Out

end
-- ==== Proof.Out.Array.lean ====
/- The output product with the residual: the two whole results. -/
module

public import proofs.«01_k».proof.Proof.Out.Block

@[expose] public section

set_option maxRecDepth 16384

noncomputable section

namespace Cert.Out

open Idealize.ShloMosaic Idealize.ShloMosaic.TcCoe Idealize.ShloMosaic.Pointwise Idealize.ShloMosaic.Pipeline
open Cert.KernelOutIdeal Cert.KernelOutIdeal.Gen Idealize.SL.Sem Cert.Norm

/-- The row after the residual, for position `s` of sequence `b`. -/
def residAt (y : S2048x16x1024.Idx → EReal) (a : S16x8x2048x128.Idx → EReal) (x : S16x2048x2048.Idx → EReal) (w : S1x2048x2048.Idx → EReal)
    (gy ga : S1x1024.Idx → EReal) (g : S16x2048.Idx → EReal) (b : Fin 16) (s : Fin 2048) : Fin 2048 → EReal :=
  resid (mixed (fun k => y (ix3 s b k)) (fun h d => a (ix4 b h s d)) (fun k => gy (ix2 0 k)) (fun k => ga (ix2 0 k)))
    (fun n => x (ix3 b s n)) (fun n => g (ix2 b n)) (fun k n => w (ix3 0 k n))

/-- The sequence of row `i` of the results. -/
def seq (i : Fin 32768) : Fin 16 := ⟨i.val / 2048, by omega⟩

/-- The position of row `i` of the results. -/
def pos (i : Fin 32768) : Fin 2048 := ⟨i.val % 2048, by omega⟩

variable (y : S2048x16x1024.Idx → EReal) (a : S16x8x2048x128.Idx → EReal) (x : S16x2048x2048.Idx → EReal) (w : S1x2048x2048.Idx → EReal)
  (gy ga : S1x1024.Idx → EReal) (g : S16x2048.Idx → EReal) (gf : S1x2048.Idx → EReal) (sc sh : S16x2048.Idx → EReal)

/-- The first result. -/
def residual (i : S32768x2048.Idx) : EReal := residAt y a x w gy ga g (seq (i 0)) (pos (i 0)) (i 1)

/-- The modulated row, for position `s` of sequence `b`. -/
def normAt (b : Fin 16) (s : Fin 2048) : Fin 2048 → EReal :=
  modulated (residAt y a x w gy ga g b s) (fun n => gf (ix2 0 n)) (fun n => sc (ix2 b n)) (fun n => sh (ix2 b n))

/-- The second result. -/
def normal (i : S32768x2048.Idx) : EReal := normAt y a x w gy ga g gf sc sh (seq (i 0)) (pos (i 0)) (i 1)

variable (m : (ℓ : Loc nD τ sig) → Buf (Elt Ideal) ℓ)

theorem idx : ∀ t : Fin cfg0.N, win0_0.index t = ![t.val % 4, t.val / 4] ∧ win0_1.index t = ![t.val / 4, 0, t.val % 4, 0]
    ∧ win0_2.index t = ![t.val, 0] ∧ win0_3.index t = ![0, 0] ∧ win0_4.index t = ![0, 0] ∧ win0_5.index t = ![0, 0]
    ∧ win0_6.index t = ![t.val / 4, 0, 0] ∧ win0_7.index t = ![0, 0] ∧ win0_8.index t = ![t.val / 4, 0, 0] ∧ win0_9.index t = ![t.val / 4, 0, 0]
    ∧ win0_10.index t = ![t.val, 0] ∧ win0_11.index t = ![t.val, 0] :=
  (by decide +kernel : ∀ t : Fin grid0.N, _)

theorem row_lt (t : Fin cfg0.N) (r : Fin 512) : 512 * t.val + r.val < 32768 := by
  have := t.isLt; change t.val < 64 at this; omega

/-- Row `r` of block `t`. -/
abbrev row (t : Fin cfg0.N) (r : Fin 512) : Fin 32768 := ⟨512 * t.val + r.val, row_lt t r⟩

theorem read_y (c : Dev nD) (t : Fin cfg0.N) (r : Fin 512) (k : Fin 1024) :
    iblk m c 0 t (ix2 r k) = m ((c : Thread nD τ).loc main_arg0) (ix3 (pos (row t r)) (seq (row t r)) k) := by
  blk_simp [iblk, idx t]
  entry_read
  pointwise []
  blk_ext [idx t, pos, seq]

theorem read_a (c : Dev nD) (t : Fin cfg0.N) (r : Fin 512) (h : Fin 8) (d : Fin 128) :
    iblk m c 1 t (ix4 0 h r d) = m ((c : Thread nD τ).loc main_arg1) (ix4 (seq (row t r)) h (pos (row t r)) d) := by
  blk_simp [iblk, V, idx t]
  blk_ext [idx t, pos, seq]

theorem read_x (c : Dev nD) (t : Fin cfg0.N) (r : Fin 512) (n : Fin 2048) :
    iblk m c 2 t (ix2 r n) = m ((c : Thread nD τ).loc main_arg2) (ix3 (seq (row t r)) (pos (row t r)) n) := by
  blk_simp [iblk, idx t]
  entry_read
  pointwise []
  blk_ext [idx t, pos, seq]

theorem read_w (c : Dev nD) (t : Fin cfg0.N) (k n : Fin 2048) :
    iblk m c 3 t (ix2 k n) = m ((c : Thread nD τ).loc main_arg3) (ix3 0 k n) := by
  blk_simp [iblk, idx t]
  entry_read
  pointwise []
  blk_ext [idx t]

theorem read_gy (c : Dev nD) (t : Fin cfg0.N) (k : Fin 1024) : iblk m c 4 t (ix2 0 k) = m ((c : Thread nD τ).loc main_arg4) (ix2 0 k) := by
  blk_simp [iblk, idx t]
  entry_read
  pointwise []
  blk_ext [idx t]

theorem read_ga (c : Dev nD) (t : Fin cfg0.N) (k : Fin 1024) : iblk m c 5 t (ix2 0 k) = m ((c : Thread nD τ).loc main_arg5) (ix2 0 k) := by
  blk_simp [iblk, idx t]
  entry_read
  pointwise []
  blk_ext [idx t]

theorem read_g (c : Dev nD) (t : Fin cfg0.N) (r : Fin 512) (n : Fin 2048) :
    iblk m c 6 t (ix3 0 0 n) = m ((c : Thread nD τ).loc main_arg6) (ix2 (seq (row t r)) n) := by
  blk_simp [iblk, idx t]
  entry_read
  pointwise []
  blk_ext [idx t, seq]

theorem read_gf (c : Dev nD) (t : Fin cfg0.N) (n : Fin 2048) : iblk m c 7 t (ix2 0 n) = m ((c : Thread nD τ).loc main_arg7) (ix2 0 n) := by
  blk_simp [iblk, idx t]
  entry_read
  pointwise []
  blk_ext [idx t]

theorem read_sc (c : Dev nD) (t : Fin cfg0.N) (r : Fin 512) (n : Fin 2048) :
    iblk m c 8 t (ix3 0 0 n) = m ((c : Thread nD τ).loc main_arg8) (ix2 (seq (row t r)) n) := by
  blk_simp [iblk, idx t]
  entry_read
  pointwise []
  blk_ext [idx t, seq]

theorem read_sh (c : Dev nD) (t : Fin cfg0.N) (r : Fin 512) (n : Fin 2048) :
    iblk m c 9 t (ix3 0 0 n) = m ((c : Thread nD τ).loc main_arg9) (ix2 (seq (row t r)) n) := by
  blk_simp [iblk, idx t]
  entry_read
  pointwise []
  blk_ext [idx t, seq]

/-- A row of a block is the row of the arrays. -/
theorem resid_eq (c : Dev nD) (t : Fin cfg0.N) (r : Fin 512) :
    residRow (iblk m c 0 t) (iblk m c 1 t) (iblk m c 2 t) (iblk m c 3 t) (iblk m c 4 t) (iblk m c 5 t) (iblk m c 6 t) r
      = residAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (seq (row t r)) (pos (row t r)) := by
  unfold residRow residAt
  simp only [read_y, read_a, read_x, read_w, read_gy, read_ga, read_g m c t r]

theorem norm_eq (c : Dev nD) (t : Fin cfg0.N) (r : Fin 512) :
    modulated (residRow (iblk m c 0 t) (iblk m c 1 t) (iblk m c 2 t) (iblk m c 3 t) (iblk m c 4 t) (iblk m c 5 t) (iblk m c 6 t) r)
        (fun n => iblk m c 7 t (ix2 0 n)) (fun n => iblk m c 8 t (ix3 0 0 n)) (fun n => iblk m c 9 t (ix3 0 0 n))
      = normAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (seq (row t r)) (pos (row t r)) := by
  rw [resid_eq]
  unfold normAt
  simp only [read_gf, read_sc m c t r, read_sh m c t r]

theorem final10 (c : Dev nD) :
    (dats m 0 c).arrAt 10 cfg0.N = residual (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ (by decide +kernel) fun t _ y => ?_
  blk_simp
  rw [after0_10]
  obtain ⟨u, rfl⟩ : ∃ u : S512x2048.Idx, u = y := ⟨y, rfl⟩
  have hu : u = ix2 (u 0) (u 1) := by funext a; fin_cases a <;> rfl
  generalize (u 0 : Fin 512) = r at hu
  generalize (u 1 : Fin 2048) = n at hu
  subst hu
  refine (out10_apply _ _ _ _ _ _ _ _ _ _ r n).trans ((congrFun (resid_eq m c t r) n).trans ?_)
  refine congrArg (residual _ _ _ _ _ _ _) (a₁ := ix2 (row t r) n) ?_
  blk_ext [idx t]

theorem final11 (c : Dev nD) :
    (dats m 0 c).arrAt 11 cfg0.N = normal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 11 _ (by decide +kernel) fun t _ y => ?_
  blk_simp
  rw [after0_11]
  obtain ⟨u, rfl⟩ : ∃ u : S512x2048.Idx, u = y := ⟨y, rfl⟩
  have hu : u = ix2 (u 0) (u 1) := by funext a; fin_cases a <;> rfl
  generalize (u 0 : Fin 512) = r at hu
  generalize (u 1 : Fin 2048) = n at hu
  subst hu
  refine (out11_apply _ _ _ _ _ _ _ _ _ _ r n).trans ((congrFun (norm_eq m c t r) n).trans ?_)
  refine congrArg (normal _ _ _ _ _ _ _ _ _ _) (a₁ := ix2 (row t r) n) ?_
  blk_ext [idx t]

end Cert.Out

end
-- ==== Proof.Out.Plain.lean ====
/- The output product with the residual: the plain program's two results. -/
module

public import proofs.«01_k».proof.Proof.Out.Array
public import proofs.«01_k».proof.Proof.Gen.ReferenceOutIdeal.Read

@[expose] public section

set_option maxRecDepth 16384

noncomputable section

namespace Cert.Out

open Idealize.ShloMosaic Idealize.ShloMosaic.TcCoe Idealize.ShloMosaic.Pointwise Idealize.SL.Sem Cert.Norm
open Cert.ReferenceOutIdeal Cert.ReferenceOutIdeal.Gen Cert.ReferenceOutIdeal.Read

theorem zero_word : Ideal.ofBits .f32 0x00000000#32 = 0 := by simp [Ideal.ofBits, Ideal.ieee]

theorem one_word : Ideal.ofBits .f32 0x3F800000#32 = 1 := by
  show Ideal.ofBits .f32 0x3F800000#32 = _
  simp [Ideal.ofBits, Ideal.ieee]
  refine (EReal.coe_mul (8388608 : ℝ) _).symm.trans ((congrArg _ ?_).trans EReal.coe_one)
  norm_num

variable (x0 : FVec Ideal S2048x16x1024 .bf16) (x1 : FVec Ideal S16x8x2048x128 .bf16) (x2 : FVec Ideal S16x2048x2048 .f32)
  (x3 : FVec Ideal S1x2048x2048 .f32) (x4 x5 : FVec Ideal S1x1024 .f32) (x6 : FVec Ideal S16x2048 .f32) (x7 : FVec Ideal S1x2048 .f32)
  (x8 x9 : FVec Ideal S16x2048 .f32) (b : Fin 16) (s : Fin 2048)

/-! ## The recurrent group -/

theorem rec_apply (k : Fin 1024) : val_main_v4 (F := Ideal) x0 (ix3 b s k) = x0 (ix3 s b k) := by
  rw [val_main_v4_apply, val_main_v0_apply, Ideal.extf_def]
  exact congrArg x0 (by funext a; fin_cases a <;> rfl)

theorem rec_sq : val_main_v6 (F := Ideal) x0 (ix2 b s) = ∑ k : Fin 1024, x0 (ix3 s b k) * x0 (ix3 s b k) := by
  rw [val_main_v6_apply, val_main_cst_apply]
  refine (congrArg₂ (· + ·) zero_word (Finset.sum_congr rfl fun k _ => ?_)).trans (zero_add _)
  rw [val_main_v5_apply, show idx_main_v6 (ix2 b s) k = ix3 b s k by funext a; fin_cases a <;> rfl, rec_apply, Ideal.mulf_def]

theorem rec_inv : val_main_v12 (F := Ideal) x0 (ix3 b s 0) = inv 0x44800000#32 (∑ k : Fin 1024, x0 (ix3 s b k) * x0 (ix3 s b k)) := by
  rw [val_main_v12_apply, val_main_v11_apply, val_main_v9_apply, val_main_v10_apply, val_main_cst_1_apply, val_main_v8_apply, val_main_cst_0_apply,
    val_main_v7_apply, show idx_main_v7 (ix3 b s 0) = ix2 b s by funext a; fin_cases a <;> rfl, rec_sq]
  rfl

theorem rec_gain (k : Fin 1024) : val_main_v16 (F := Ideal) x4 (ix3 b s k) = x4 (ix2 0 k) := by
  rw [val_main_v16_apply, val_main_v15_apply, val_main_v3_apply]
  refine congrArg x4 ?_
  funext a; refine Fin.ext ?_
  fin_cases a
  · rfl
  · show k.val % 1024 = k.val; omega

theorem rec_norm (k : Fin 1024) :
    val_main_v18 (F := Ideal) x0 x4 (ix3 b s k) = rms 0x44800000#32 (fun k => x0 (ix3 s b k)) (fun k => x4 (ix2 0 k)) k := by
  rw [val_main_v18_apply, val_main_v17_apply, val_main_v14_apply, rec_apply, val_main_v13_apply,
    show idx_main_v13 (ix3 b s k) = ix3 b s 0 by funext a; fin_cases a <;> rfl, rec_inv, rec_gain]
  rfl

/-! ## The heads -/

theorem att_apply (k : Fin 1024) :
    val_main_v20 (F := Ideal) x1 (ix3 b s k) = x1 (ix4 b ⟨k.val / 128, by omega⟩ s ⟨k.val % 128, by omega⟩) := by
  rw [val_main_v20_apply, val_main_v2_apply, val_main_v1_apply, Ideal.extf_def]
  refine congrArg x1 ?_
  funext a; refine Fin.ext ?_
  fin_cases a
  · show ((b.val * 2048 + s.val) * 1024 + k.val) / 2097152 = b.val; omega
  · show ((b.val * 2048 + s.val) * 1024 + k.val) / 128 % 8 = k.val / 128; omega
  · show ((b.val * 2048 + s.val) * 1024 + k.val) / 1024 % 2048 = s.val; omega
  · show ((b.val * 2048 + s.val) * 1024 + k.val) % 128 = k.val % 128; omega

/-- A sum over 1024 entries, head by head. -/
theorem sum_heads (f : Fin 8 → Fin 128 → EReal) : (∑ k : Fin 1024, f ⟨k.val / 128, by omega⟩ ⟨k.val % 128, by omega⟩) = ∑ h, ∑ d, f h d := by
  rw [← Fintype.sum_prod_type', ← Equiv.sum_comp (finProdFinEquiv (m := 8) (n := 128)).symm]
  rfl

theorem att_sq : val_main_v22 (F := Ideal) x1 (ix2 b s) = ∑ h : Fin 8, ∑ d : Fin 128, x1 (ix4 b h s d) * x1 (ix4 b h s d) := by
  rw [val_main_v22_apply, val_main_cst_2_apply, ← sum_heads fun h d => x1 (ix4 b h s d) * x1 (ix4 b h s d)]
  refine (congrArg₂ (· + ·) zero_word (Finset.sum_congr rfl fun k _ => ?_)).trans (zero_add _)
  rw [val_main_v21_apply, show idx_main_v22 (ix2 b s) k = ix3 b s k by funext a; fin_cases a <;> rfl, att_apply, Ideal.mulf_def]

theorem att_inv : val_main_v28 (F := Ideal) x1 (ix3 b s 0) = inv 0x44800000#32 (∑ h : Fin 8, ∑ d : Fin 128, x1 (ix4 b h s d) * x1 (ix4 b h s d)) := by
  rw [val_main_v28_apply, val_main_v27_apply, val_main_v25_apply, val_main_v26_apply, val_main_cst_4_apply, val_main_v24_apply, val_main_cst_3_apply,
    val_main_v23_apply, show idx_main_v23 (ix3 b s 0) = ix2 b s by funext a; fin_cases a <;> rfl, att_sq]
  rfl

theorem att_gain (k : Fin 1024) : val_main_v32 (F := Ideal) x5 (ix3 b s k) = x5 (ix2 0 k) := by
  rw [val_main_v32_apply, val_main_v31_apply, val_main_v19_apply]
  refine congrArg x5 ?_
  funext a; refine Fin.ext ?_
  fin_cases a
  · rfl
  · show k.val % 1024 = k.val; omega

theorem att_norm (k : Fin 1024) :
    val_main_v34 (F := Ideal) x1 x5 (ix3 b s k) = x1 (ix4 b ⟨k.val / 128, by omega⟩ s ⟨k.val % 128, by omega⟩)
      * inv 0x44800000#32 (∑ h : Fin 8, ∑ d : Fin 128, x1 (ix4 b h s d) * x1 (ix4 b h s d)) * x5 (ix2 0 k) := by
  rw [val_main_v34_apply, val_main_v33_apply, val_main_v30_apply, att_apply, val_main_v29_apply,
    show idx_main_v29 (ix3 b s k) = ix3 b s 0 by funext a; fin_cases a <;> rfl, att_inv, att_gain]
  rfl

/-! ## The product and the residual -/

theorem mixed_apply (k : Fin 2048) :
    val_main_v37 (F := Ideal) x0 x1 x4 x5 (ix3 b s k)
      = mixed (fun k => x0 (ix3 s b k)) (fun h d => x1 (ix4 b h s d)) (fun k => x4 (ix2 0 k)) (fun k => x5 (ix2 0 k)) k := by
  rw [val_main_v37_apply, Ideal.extf_def]
  unfold val_main_v35 mixed
  generalize hy : val_main_v18 (F := Ideal) x0 x4 = y
  generalize hz : val_main_v34 (F := Ideal) x1 x5 = z
  pointwise []
  split_ifs with hk
  · rw [← hy, rec_norm]
  · rw [← hz, att_norm]
  · rename_i h
    exact absurd rfl h

theorem w_apply (k n : Fin 2048) : val_main_v38 (F := Ideal) x3 (ix2 k n) = x3 (ix3 0 k n) := by
  rw [val_main_v38_apply]
  refine congrArg x3 ?_
  funext a; refine Fin.ext ?_
  fin_cases a
  · rfl
  · show (k.val * 2048 + n.val) / 2048 % 2048 = k.val; omega
  · show (k.val * 2048 + n.val) % 2048 = n.val; omega

theorem gate_apply (n : Fin 2048) : val_main_v40 (F := Ideal) x6 (ix3 b s n) = x6 (ix2 b n) := by
  rw [val_main_v40_apply, val_main_v36_apply]
  exact congrArg x6 (by funext a; fin_cases a <;> rfl)

theorem resid_apply (n : Fin 2048) :
    val_main_v42 (F := Ideal) x0 x1 x2 x3 x4 x5 x6 (ix3 b s n) = residAt x0 x1 x2 x3 x4 x5 x6 b s n := by
  rw [val_main_v42_apply, val_main_v41_apply, val_main_v39_apply, gate_apply]
  refine congrArg (fun u => x2 (ix3 b s n) + x6 (ix2 b n) * u) (Finset.sum_congr rfl fun k _ => ?_)
  rw [show lidx_main_v39 (ix3 b s n) k = ix3 b s k by funext a; fin_cases a <;> rfl,
    show ridx_main_v39 (ix3 b s n) k = ix2 k n by funext a; fin_cases a <;> rfl, mixed_apply, w_apply]

/-! ## The normalised, modulated row -/

theorem sq_apply :
    val_main_v45 (F := Ideal) x0 x1 x2 x3 x4 x5 x6 (ix2 b s)
      = ∑ n, residAt x0 x1 x2 x3 x4 x5 x6 b s n * residAt x0 x1 x2 x3 x4 x5 x6 b s n := by
  rw [val_main_v45_apply, val_main_cst_5_apply]
  refine (congrArg₂ (· + ·) zero_word (Finset.sum_congr rfl fun k _ => ?_)).trans (zero_add _)
  rw [val_main_v44_apply, show idx_main_v45 (ix2 b s) k = ix3 b s k by funext a; fin_cases a <;> rfl, resid_apply, Ideal.mulf_def]

theorem inv_apply :
    val_main_v51 (F := Ideal) x0 x1 x2 x3 x4 x5 x6 (ix3 b s 0)
      = inv 0x45000000#32 (∑ n, residAt x0 x1 x2 x3 x4 x5 x6 b s n * residAt x0 x1 x2 x3 x4 x5 x6 b s n) := by
  rw [val_main_v51_apply, val_main_v50_apply, val_main_v48_apply, val_main_v49_apply, val_main_cst_7_apply, val_main_v47_apply, val_main_cst_6_apply,
    val_main_v46_apply, show idx_main_v46 (ix3 b s 0) = ix2 b s by funext a; fin_cases a <;> rfl, sq_apply]
  rfl

theorem gain_apply (n : Fin 2048) : val_main_v55 (F := Ideal) x7 (ix3 b s n) = x7 (ix2 0 n) := by
  rw [val_main_v55_apply, val_main_v54_apply, val_main_v43_apply]
  refine congrArg x7 ?_
  funext a; refine Fin.ext ?_
  fin_cases a
  · rfl
  · show n.val % 2048 = n.val; omega

theorem scale_apply (n : Fin 2048) : val_main_v60 (F := Ideal) x8 (ix3 b s n) = 1 + x8 (ix2 b n) := by
  rw [val_main_v60_apply, val_main_v59_apply, val_main_v58_apply, val_main_cst_8_apply, val_main_v57_apply]
  exact congrArg₂ (· + ·) one_word (congrArg x8 (by funext a; fin_cases a <;> rfl))

theorem shift_apply (n : Fin 2048) : val_main_v63 (F := Ideal) x9 (ix3 b s n) = x9 (ix2 b n) := by
  rw [val_main_v63_apply, val_main_v62_apply]
  exact congrArg x9 (by funext a; fin_cases a <;> rfl)

theorem norm_apply (n : Fin 2048) :
    val_main_v64 (F := Ideal) x0 x1 x2 x3 x4 x5 x6 x7 x8 x9 (ix3 b s n) = normAt x0 x1 x2 x3 x4 x5 x6 x7 x8 x9 b s n := by
  rw [val_main_v64_apply, val_main_v61_apply, val_main_v56_apply, val_main_v53_apply, val_main_v52_apply,
    show idx_main_v52 (ix3 b s n) = ix3 b s 0 by funext a; fin_cases a <;> rfl, inv_apply, resid_apply, gain_apply, scale_apply, shift_apply]
  rfl

/-! ## The two results -/

theorem row_idx (r : Fin 32768) (n : Fin 2048) : idx_main_v65 (ix2 r n) = ix3 (seq r) (pos r) n := by
  funext a; refine Fin.ext ?_
  fin_cases a
  · show (r.val * 2048 + n.val) / 4194304 = r.val / 2048; omega
  · show (r.val * 2048 + n.val) / 2048 % 2048 = r.val % 2048; omega
  · show (r.val * 2048 + n.val) % 2048 = n.val; omega

theorem plain_residual : val_main_v65 (F := Ideal) x0 x1 x2 x3 x4 x5 x6 = residual x0 x1 x2 x3 x4 x5 x6 := by
  funext u
  obtain ⟨r, n, rfl⟩ : ∃ (r : Fin 32768) (n : Fin 2048), u = ix2 r n := ⟨u 0, u 1, by funext a; fin_cases a <;> rfl⟩
  rw [val_main_v65_apply, row_idx, resid_apply]
  rfl

theorem plain_normal : val_main_v67 (F := Ideal) x0 x1 x2 x3 x4 x5 x6 x7 x8 x9 = normal x0 x1 x2 x3 x4 x5 x6 x7 x8 x9 := by
  funext u
  obtain ⟨r, n, rfl⟩ : ∃ (r : Fin 32768) (n : Fin 2048), u = ix2 r n := ⟨u 0, u 1, by funext a; fin_cases a <;> rfl⟩
  rw [val_main_v67_apply, val_main_v66_apply, show idx_main_v66 (ix2 r n) = ix3 (seq r) (pos r) n from row_idx r n, norm_apply]
  rfl

end Cert.Out

end
-- ==== Proof.Out.Equation.lean ====
/- The output product's equation: the kernel and the plain program end with equal results. -/
module

public import proofs.«01_k».proof.Defs
public import proofs.«01_k».proof.Proof.Out.Plain
public import proofs.«01_k».proof.Proof.Gen.KernelOutIdeal.Value

@[expose] public section

set_option maxRecDepth 16384

noncomputable section

namespace Cert.Out

open Idealize.ShloMosaic Idealize.ShloMosaic.TcCoe Idealize.SL.Sem
open Cert.ReferenceOutIdeal.Read

theorem algebraic : Cert.algebraic_KernelOutIdeal_ReferenceOutIdeal := fun m ρ m' ρ' _ hag => by
  refine ⟨fun c => residual (m ((c.tc : Thread Cert.KernelOutIdeal.nD Cert.KernelOutIdeal.τ).loc Cert.KernelOutIdeal.main_arg0))
      (m ((c.tc : Thread Cert.KernelOutIdeal.nD Cert.KernelOutIdeal.τ).loc Cert.KernelOutIdeal.main_arg1))
      (m ((c.tc : Thread Cert.KernelOutIdeal.nD Cert.KernelOutIdeal.τ).loc Cert.KernelOutIdeal.main_arg2))
      (m ((c.tc : Thread Cert.KernelOutIdeal.nD Cert.KernelOutIdeal.τ).loc Cert.KernelOutIdeal.main_arg3))
      (m ((c.tc : Thread Cert.KernelOutIdeal.nD Cert.KernelOutIdeal.τ).loc Cert.KernelOutIdeal.main_arg4))
      (m ((c.tc : Thread Cert.KernelOutIdeal.nD Cert.KernelOutIdeal.τ).loc Cert.KernelOutIdeal.main_arg5))
      (m ((c.tc : Thread Cert.KernelOutIdeal.nD Cert.KernelOutIdeal.τ).loc Cert.KernelOutIdeal.main_arg6)),
    fun c => normal (m ((c.tc : Thread Cert.KernelOutIdeal.nD Cert.KernelOutIdeal.τ).loc Cert.KernelOutIdeal.main_arg0))
      (m ((c.tc : Thread Cert.KernelOutIdeal.nD Cert.KernelOutIdeal.τ).loc Cert.KernelOutIdeal.main_arg1))
      (m ((c.tc : Thread Cert.KernelOutIdeal.nD Cert.KernelOutIdeal.τ).loc Cert.KernelOutIdeal.main_arg2))
      (m ((c.tc : Thread Cert.KernelOutIdeal.nD Cert.KernelOutIdeal.τ).loc Cert.KernelOutIdeal.main_arg3))
      (m ((c.tc : Thread Cert.KernelOutIdeal.nD Cert.KernelOutIdeal.τ).loc Cert.KernelOutIdeal.main_arg4))
      (m ((c.tc : Thread Cert.KernelOutIdeal.nD Cert.KernelOutIdeal.τ).loc Cert.KernelOutIdeal.main_arg5))
      (m ((c.tc : Thread Cert.KernelOutIdeal.nD Cert.KernelOutIdeal.τ).loc Cert.KernelOutIdeal.main_arg6))
      (m ((c.tc : Thread Cert.KernelOutIdeal.nD Cert.KernelOutIdeal.τ).loc Cert.KernelOutIdeal.main_arg7))
      (m ((c.tc : Thread Cert.KernelOutIdeal.nD Cert.KernelOutIdeal.τ).loc Cert.KernelOutIdeal.main_arg8))
      (m ((c.tc : Thread Cert.KernelOutIdeal.nD Cert.KernelOutIdeal.τ).loc Cert.KernelOutIdeal.main_arg9)),
    (θ_run _ _ _).mono (fun _ h c => ⟨(h c).1.trans (final10 m c), (h c).2.1.trans (final11 m c), (h c).2.2⟩) (Cert.KernelOutIdeal.Value.run_blocks m ρ),
    (θ_run _ _ _).mono (fun _ h c => ⟨(h c).1.trans ((val_main_v65_eq _ _ _ _ _ _ _).trans ?_), (h c).2.1.trans ((val_main_v67_eq m' c).trans ?_), (h c).2.2⟩)
      (Cert.ReferenceOutIdeal.Value.run m' ρ')⟩
  · obtain ⟨a0, a1, a2, a3, a4, a5, a6, -⟩ := hag c
    rw [a0, a1, a2, a3, a4, a5, a6]
    exact plain_residual _ _ _ _ _ _ _
  · obtain ⟨a0, a1, a2, a3, a4, a5, a6, a7, a8, a9⟩ := hag c
    rw [a0, a1, a2, a3, a4, a5, a6, a7, a8, a9]
    exact plain_normal _ _ _ _ _ _ _ _ _ _

end Cert.Out

end
-- ==== Proof.In.Block.lean ====
/- The input projection: what one block computes. -/
module

public import proofs.«01_k».proof.Proof.Norm
public import proofs.«01_k».proof.Proof.Gen.KernelInIdeal.Frame
public import Idealize.ShloMosaic.Lib.Pipeline.ValueKit
public import Idealize.ShloMosaic.Lib.Pointwise

@[expose] public section

set_option maxRecDepth 16384

noncomputable section

namespace Cert.InProj

open Idealize.ShloMosaic Idealize.ShloMosaic.TcCoe Idealize.ShloMosaic.Pointwise Idealize.ShloMosaic.Pipeline
open Cert.KernelInIdeal Cert.KernelInIdeal.Gen Idealize.SL.Sem Cert.Norm

/-- The store of head `h`: what it stores is the part of the block it names. -/
theorem head_piece (h : Fin 8) (off : Fin 4 → Nat) (ho : off = ![0, h.val, 0, 0]) (hs) (p : S1x1x512x128.Idx → EReal)
    (G : Fin 8 → Fin 512 → Fin 128 → EReal) (hG : ∀ r d, p (ix4 0 0 r d) = G h r d) (x : S1x1x512x128.Idx) :
    p x = (fun i : S1x8x512x128.Idx => G (i 1) (i 2) (i 3)) ((Rect.unit (s := S1x8x512x128) off S1x1x512x128.size hs).emb x) := by
  subst ho
  have e0 : (x 0).val = 0 := by have := (x 0).isLt; change (x 0).val < 1 at this; omega
  have e1 : (x 1).val = 0 := by have := (x 1).isLt; change (x 1).val < 1 at this; omega
  have hx : x = ix4 0 0 (x 2) (x 3) := by
    funext a
    fin_cases a
    · exact Fin.ext e0
    · exact Fin.ext e1
    · rfl
    · rfl
  refine (congrArg p hx).trans ((hG _ _).trans ?_)
  show G _ _ _ = G _ _ _
  congr 1
  · refine Fin.ext ?_
    show h.val = h.val + 1 * (x 1).val; omega
  · refine Fin.ext ?_
    show (x 2).val = 0 + 1 * (x 2).val; omega
  · refine Fin.ext ?_
    show (x 3).val = 0 + 1 * (x 3).val; omega

/-- Eight heads stored one after the other: the block at head `h` is what was stored there. -/
theorem heads_canon (p0 p1 p2 p3 p4 p5 p6 p7 : Vec Ideal S1x1x512x128 .bf16) (G : Fin 8 → Fin 512 → Fin 128 → EReal)
    (h0 : ∀ r d, p0 (ix4 0 0 r d) = G 0 r d) (h1 : ∀ r d, p1 (ix4 0 0 r d) = G 1 r d) (h2 : ∀ r d, p2 (ix4 0 0 r d) = G 2 r d)
    (h3 : ∀ r d, p3 (ix4 0 0 r d) = G 3 r d) (h4 : ∀ r d, p4 (ix4 0 0 r d) = G 4 r d) (h5 : ∀ r d, p5 (ix4 0 0 r d) = G 5 r d)
    (h6 : ∀ r d, p6 (ix4 0 0 r d) = G 6 r d) (h7 : ∀ r d, p7 (ix4 0 0 r d) = G 7 r d) (h : Fin 8) (r : Fin 512) (d : Fin 128) :
    View.canon (Val := Elt Ideal) (s := S1x8x512x128) (e := .bf16) [⟨r0_19, p7⟩, ⟨r0_18, p6⟩, ⟨r0_17, p5⟩, ⟨r0_16, p4⟩, ⟨r0_15, p3⟩, ⟨r0_14, p2⟩, ⟨r0_13, p1⟩, ⟨r0_12, p0⟩] (ix4 0 h r d)
      = G h r d := by
  refine View.canon_apply_of_pieces (Val := Elt Ideal) (S := S1x8x512x128) (e := .bf16) (fun i => G (i 1) (i 2) (i 3)) _ ?_ _ (cover0_10 p7 p6 p5 p4 p3 p2 p1 p0 _)
  intro p hp
  simp only [List.mem_cons, List.not_mem_nil, or_false] at hp
  rcases hp with rfl | rfl | rfl | rfl | rfl | rfl | rfl | rfl
  · exact head_piece 7 _ rfl inb_S1x8x512x128_S1x1x512x128_0_7_0_0 p7 G h7
  · exact head_piece 6 _ rfl inb_S1x8x512x128_S1x1x512x128_0_6_0_0 p6 G h6
  · exact head_piece 5 _ rfl inb_S1x8x512x128_S1x1x512x128_0_5_0_0 p5 G h5
  · exact head_piece 4 _ rfl inb_S1x8x512x128_S1x1x512x128_0_4_0_0 p4 G h4
  · exact head_piece 3 _ rfl inb_S1x8x512x128_S1x1x512x128_0_3_0_0 p3 G h3
  · exact head_piece 2 _ rfl inb_S1x8x512x128_S1x1x512x128_0_2_0_0 p2 G h2
  · exact head_piece 1 _ rfl inb_S1x8x512x128_S1x1x512x128_0_1_0_0 p1 G h1
  · exact head_piece 0 _ rfl inb_S1x8x512x128_S1x1x512x128_0_0_0_0 p0 G h0

/-- Column `d` of head `h` among 1024 columns. -/
abbrev col (h : Fin 8) (d : Fin 128) : Fin 1024 := ⟨128 * h.val + d.val, by omega⟩

/-- Head `h` of row `r`, normalised. -/
def headNorm (V : S512x1024.Idx → EReal) (g : S1x128.Idx → EReal) (h : Fin 8) (r : Fin 512) (d : Fin 128) : EReal :=
  rms 0x43000000#32 (fun d => V (ix2 r (col h d))) (fun d => g (ix2 0 d)) d

theorem col_zero (d : Fin 128) (hd : d.val < 1024) : (⟨d.val, hd⟩ : Fin 1024) = col 0 d := Fin.ext (by simp [col])

section Heads

variable (V : FVec Ideal S512x1024 .f32) (g : FVec Ideal S1x128 .f32) (h : FVec Ideal S512x2048 .bf16) (w : Vec Ideal S2048x1024 .bf16)
  (gq : Vec Ideal S1x128 .f32) (p0 : Vec Ideal S1x1x512x128 .bf16)

theorem q_first (r : Fin 512) (d : Fin 128) :
    k0_pay15 (k0_pay14 h w gq) (ix4 0 0 r d) = headNorm (k0_pay8 h w) (k0_pay11 gq) 0 r d := by
  pointwise [k0_pay15, k0_pay14]
  simp only [col_zero]
  rfl

theorem q_heads (hp : ∀ r d, p0 (ix4 0 0 r d) = headNorm V g 0 r d) (h : Fin 8) (r : Fin 512) (d : Fin 128) :
    View.canon (Val := Elt Ideal) (s := S1x8x512x128) (e := .bf16) [⟨r0_19, k0_pay1 (k0_pay49 V g)⟩, ⟨r0_18, k0_pay45 (k0_pay44 V g)⟩, ⟨r0_17, k0_pay40 (k0_pay39 V g)⟩,
      ⟨r0_16, k0_pay35 (k0_pay34 V g)⟩, ⟨r0_15, k0_pay30 (k0_pay29 V g)⟩, ⟨r0_14, k0_pay25 (k0_pay24 V g)⟩, ⟨r0_13, k0_pay20 (k0_pay19 V g)⟩, ⟨r0_12, p0⟩] (ix4 0 h r d)
      = headNorm V g h r d := by
  refine heads_canon _ _ _ _ _ _ _ _ (headNorm V g) hp ?_ ?_ ?_ ?_ ?_ ?_ ?_ h r d <;> intro r d <;>
    pointwise [k0_pay1, k0_pay49, k0_pay45, k0_pay44, k0_pay40, k0_pay39, k0_pay35, k0_pay34, k0_pay30, k0_pay29, k0_pay25, k0_pay24, k0_pay20, k0_pay19] <;> rfl

theorem k_first (r : Fin 512) (d : Fin 128) :
    k0_pay16 g (k0_pay13 h w) (ix4 0 0 r d) = headNorm (k0_pay9 h w) g 0 r d := by
  pointwise [k0_pay16, k0_pay13]
  simp only [col_zero]
  rfl

theorem k_heads (hp : ∀ r d, p0 (ix4 0 0 r d) = headNorm V g 0 r d) (h : Fin 8) (r : Fin 512) (d : Fin 128) :
    View.canon (Val := Elt Ideal) (s := S1x8x512x128) (e := .bf16) [⟨r0_19, k0_pay2 g (k0_pay48 V)⟩, ⟨r0_18, k0_pay46 g (k0_pay43 V)⟩, ⟨r0_17, k0_pay41 g (k0_pay38 V)⟩,
      ⟨r0_16, k0_pay36 g (k0_pay33 V)⟩, ⟨r0_15, k0_pay31 g (k0_pay28 V)⟩, ⟨r0_14, k0_pay26 g (k0_pay23 V)⟩, ⟨r0_13, k0_pay21 g (k0_pay18 V)⟩, ⟨r0_12, p0⟩] (ix4 0 h r d)
      = headNorm V g h r d := by
  refine heads_canon _ _ _ _ _ _ _ _ (headNorm V g) hp ?_ ?_ ?_ ?_ ?_ ?_ ?_ h r d <;> intro r d <;>
    pointwise [k0_pay2, k0_pay48, k0_pay46, k0_pay43, k0_pay41, k0_pay38, k0_pay36, k0_pay33, k0_pay31, k0_pay28, k0_pay26, k0_pay23, k0_pay21, k0_pay18] <;> rfl

theorem v_heads (h : Fin 8) (r : Fin 512) (d : Fin 128) :
    View.canon (Val := Elt Ideal) (s := S1x8x512x128) (e := .bf16) [⟨r0_19, k0_pay3 V⟩, ⟨r0_18, k0_pay47 V⟩, ⟨r0_17, k0_pay42 V⟩,
      ⟨r0_16, k0_pay37 V⟩, ⟨r0_15, k0_pay32 V⟩, ⟨r0_14, k0_pay27 V⟩, ⟨r0_13, k0_pay22 V⟩, ⟨r0_12, k0_pay17 V⟩] (ix4 0 h r d)
      = V (ix2 r (col h d)) := by
  refine heads_canon _ _ _ _ _ _ _ _ (fun h r d => V (ix2 r (col h d))) ?_ ?_ ?_ ?_ ?_ ?_ ?_ ?_ h r d <;> intro r d <;>
    pointwise [k0_pay3, k0_pay47, k0_pay42, k0_pay37, k0_pay32, k0_pay27, k0_pay22, k0_pay17] <;> first | rfl | simp only [col_zero]

end Heads

variable (x0 : Vec Ideal S512x2048 .f32) (x1 : Vec Ideal S1x2048 .f32) (x2 x3 : Vec Ideal S1x1x2048 .f32) (x4 : Vec Ideal S2048x5120 .bf16)
  (x5 : Vec Ideal S2048x128 .bf16) (x6 x7 : Vec Ideal S1x128 .f32)

/-- Row `r` of the block, normalised and modulated. -/
def normRow (r : Fin 512) : Fin 2048 → EReal :=
  modulated (fun k => x0 (ix2 r k)) (fun k => x1 (ix2 0 k)) (fun k => x2 (ix3 0 0 k)) (fun k => x3 (ix3 0 0 k))

theorem pay4_apply (r : Fin 512) (k : Fin 2048) : k0_pay4 (F := Ideal) x0 x1 x2 x3 (ix2 r k) = normRow x0 x1 x2 x3 r k := by
  pointwise [k0_pay4]; rfl

theorem hz2 : (![0, 0] : Fin 2 → Nat) = fun _ => 0 := by funext a; fin_cases a <;> rfl

theorem hz3 : (![0, 0, 0] : Fin 3 → Nat) = fun _ => 0 := by funext a; fin_cases a <;> rfl

theorem norm_ld : k0_pay4 (F := Ideal) (View.ld x0 r0_0) (View.ld x1 r0_1) (View.ld x2 r0_2) (View.ld x3 r0_2) = k0_pay4 (F := Ideal) x0 x1 x2 x3 := by
  rw [View.ld_unit_zero (S := S512x2048) hz2, View.ld_unit_zero (S := S1x2048) hz2, View.ld_unit_zero (S := S1x1x2048) hz3, View.ld_unit_zero (S := S1x1x2048) hz3]

theorem pay50_apply (r : Fin 512) (k : Fin 2048) : k0_pay50 x0 x1 x2 x3 x4 x5 x6 x7 (ix2 r k) = normRow x0 x1 x2 x3 r k := by
  unfold k0_pay50
  rw [norm_ld, pay4_apply]

/-- Row `r` of the block times column `n` of the main weights. -/
def projRow (r : Fin 512) (n : Fin 5120) : EReal := ∑ k, normRow x0 x1 x2 x3 r k * x4 (ix2 k n)

theorem out8_apply (r : Fin 512) (n : Fin 1024) :
    out0_8 x0 x1 x2 x3 x4 x5 x6 x7 (ix2 r n) = projRow x0 x1 x2 x3 x4 r ⟨n.val, by omega⟩ := by
  unfold out0_8
  rw [View.canon_unit_zero hz2]
  pointwise [k0_pay5]
  simp only [norm_ld]
  simp only [pay4_apply]
  rfl

theorem out9_apply (r : Fin 512) (n : Fin 1024) :
    out0_9 x0 x1 x2 x3 x4 x5 x6 x7 (ix2 r n) = projRow x0 x1 x2 x3 x4 r ⟨1024 + n.val, by omega⟩ := by
  unfold out0_9
  rw [View.canon_unit_zero hz2]
  pointwise [k0_pay6]
  simp only [norm_ld]
  simp only [pay4_apply]
  rfl

theorem pay51_apply (r : Fin 512) (n : Fin 1024) :
    k0_pay51 x0 x1 x2 x3 x4 x5 x6 x7 (ix2 r n) = projRow x0 x1 x2 x3 x4 r ⟨2048 + n.val, by omega⟩ := by
  unfold k0_pay51
  pointwise [k0_pay8]
  simp only [pay50_apply]
  rfl

theorem pay52_apply (r : Fin 512) (n : Fin 1024) :
    k0_pay52 x0 x1 x2 x3 x4 x5 x6 x7 (ix2 r n) = projRow x0 x1 x2 x3 x4 r ⟨3072 + n.val, by omega⟩ := by
  unfold k0_pay52
  pointwise [k0_pay9]
  simp only [pay50_apply]
  rfl

theorem pay53_apply (r : Fin 512) (n : Fin 1024) :
    k0_pay53 x0 x1 x2 x3 x4 x5 x6 x7 (ix2 r n) = projRow x0 x1 x2 x3 x4 r ⟨4096 + n.val, by omega⟩ := by
  unfold k0_pay53
  pointwise [k0_pay10]
  simp only [pay50_apply]
  rfl

theorem pay54_apply (d : Fin 128) : k0_pay54 x0 x1 x2 x3 x4 x5 x6 x7 (ix2 0 d) = x6 (ix2 0 d) * Named.named (F := Ideal) (φ := .f32) κ "q_scale" 0x3E0293EE#32 := by
  unfold k0_pay54
  pointwise [k0_pay11]

theorem pay55_apply (d : Fin 128) : k0_pay55 x0 x1 x2 x3 x4 x5 x6 x7 (ix2 0 d) = x7 (ix2 0 d) := by
  unfold k0_pay55
  pointwise [k0_pay12]

theorem out10_apply (h : Fin 8) (r : Fin 512) (d : Fin 128) :
    out0_10 x0 x1 x2 x3 x4 x5 x6 x7 (ix4 0 h r d)
      = rms 0x43000000#32 (fun d => projRow x0 x1 x2 x3 x4 r ⟨2048 + (col h d).val, by omega⟩)
        (fun d => x6 (ix2 0 d) * Named.named (F := Ideal) (φ := .f32) κ "q_scale" 0x3E0293EE#32) d := by
  unfold out0_10
  refine (q_heads (k0_pay51 x0 x1 x2 x3 x4 x5 x6 x7) (k0_pay54 x0 x1 x2 x3 x4 x5 x6 x7) _ (q_first _ _ _) h r d).trans ?_
  unfold headNorm
  simp only [pay51_apply, pay54_apply]

theorem out11_apply (h : Fin 8) (r : Fin 512) (d : Fin 128) :
    out0_11 x0 x1 x2 x3 x4 x5 x6 x7 (ix4 0 h r d)
      = rms 0x43000000#32 (fun d => projRow x0 x1 x2 x3 x4 r ⟨3072 + (col h d).val, by omega⟩) (fun d => x7 (ix2 0 d)) d := by
  unfold out0_11
  refine (k_heads (k0_pay52 x0 x1 x2 x3 x4 x5 x6 x7) (k0_pay55 x0 x1 x2 x3 x4 x5 x6 x7) _ (k_first _ _ _) h r d).trans ?_
  unfold headNorm
  simp only [pay52_apply, pay55_apply]

theorem out12_apply (h : Fin 8) (r : Fin 512) (d : Fin 128) :
    out0_12 x0 x1 x2 x3 x4 x5 x6 x7 (ix4 0 h r d) = projRow x0 x1 x2 x3 x4 r ⟨4096 + (col h d).val, by omega⟩ := by
  unfold out0_12
  rw [v_heads, pay53_apply]

theorem out13_apply (r : Fin 512) (n : Fin 128) :
    out0_13 x0 x1 x2 x3 x4 x5 x6 x7 (ix2 r n) = ∑ k, normRow x0 x1 x2 x3 r k * x5 (ix2 k n) := by
  unfold out0_13
  rw [View.canon_unit_zero hz2]
  pointwise [k0_pay7]
  simp only [pay50_apply]

end Cert.InProj

end
-- ==== Proof.In.Array.lean ====
/- The input projection: the six whole results. -/
module

public import proofs.«01_k».proof.Proof.In.Block
public import Idealize.ShloMosaic.Lib.KernelVsHost

@[expose] public section

set_option maxRecDepth 16384

noncomputable section

namespace Cert.InProj

open Idealize.ShloMosaic Idealize.ShloMosaic.TcCoe Idealize.ShloMosaic.Pointwise Idealize.ShloMosaic.Pipeline
open Cert.KernelInIdeal Cert.KernelInIdeal.Gen Idealize.SL.Sem Cert.Norm

section Spec

variable (x : S16x2048x2048.Idx → EReal) (g : S1x2048.Idx → EReal) (sc sh : S16x2048.Idx → EReal) (w : S1x2048x5128.Idx → EReal)
  (gq gk : S1x128.Idx → EReal)

/-- The normalised, modulated row for position `s` of sequence `b`. -/
def normAt (b : Fin 16) (s : Fin 2048) : Fin 2048 → EReal :=
  modulated (fun k => x (ix3 b s k)) (fun k => g (ix2 0 k)) (fun k => sc (ix2 b k)) (fun k => sh (ix2 b k))

/-- Its product with column `n` of the weights. -/
def projAt (b : Fin 16) (s : Fin 2048) (n : Fin 5128) : EReal := ∑ k, normAt x g sc sh b s k * w (ix3 0 k n)

/-- The columns of a group of 1024, time first: column `c` of row `s` is column `c % 1024` of the group for sequence `c / 1024`. -/
def timeFirst (o : Fin 4097) (s : Fin 2048) (c : Fin 16384) : EReal :=
  projAt x g sc sh w ⟨c.val / 1024, by omega⟩ s ⟨o.val + c.val % 1024, by omega⟩

/-- Element `d` of head `h` of a group of 1024 columns. -/
def headAt (o : Fin 4097) (b : Fin 16) (h : Fin 8) (s : Fin 2048) (d : Fin 128) : EReal :=
  projAt x g sc sh w b s ⟨o.val + (col h d).val, by have := (col h d).isLt; omega⟩

/-- The factor of the queries. -/
def qScale : EReal := Named.named (F := Ideal) (φ := .f32) κ "q_scale" 0x3E0293EE#32

def recX (i : S2048x16384.Idx) : EReal := timeFirst x g sc sh w 0 (i 0) (i 1)

def recY (i : S2048x16384.Idx) : EReal := timeFirst x g sc sh w 1024 (i 0) (i 1)

def queryAt (b : Fin 16) (h : Fin 8) (s : Fin 2048) (d : Fin 128) : EReal :=
  rms 0x43000000#32 (headAt x g sc sh w 2048 b h s) (fun d => gq (ix2 0 d) * qScale) d

def query (i : S16x8x2048x128.Idx) : EReal := queryAt x g sc sh w gq (i 0) (i 1) (i 2) (i 3)

def keyAt (b : Fin 16) (h : Fin 8) (s : Fin 2048) (d : Fin 128) : EReal :=
  rms 0x43000000#32 (headAt x g sc sh w 3072 b h s) (fun d => gk (ix2 0 d)) d

def key (i : S16x8x2048x128.Idx) : EReal := keyAt x g sc sh w gk (i 0) (i 1) (i 2) (i 3)

def value (i : S16x8x2048x128.Idx) : EReal := headAt x g sc sh w 4096 (i 0) (i 1) (i 2) (i 3)

/-- The forget logits: eight columns, then zeros. -/
def forgetAt (r : Fin 32768) (n : Fin 128) : EReal :=
  if h : n.val < 8 then projAt x g sc sh w ⟨r.val / 2048, by omega⟩ ⟨r.val % 2048, by omega⟩ ⟨5120 + n.val, by omega⟩ else 0

def forget (i : S32768x128.Idx) : EReal := forgetAt x g sc sh w (i 0) (i 1)

end Spec

variable (m : (ℓ : Loc nD τ sig) → Buf (Elt Ideal) ℓ)

theorem idx : ∀ t : Fin cfg0.N, win0_0.index t = ![t.val, 0] ∧ win0_1.index t = ![0, 0]
    ∧ win0_2.index t = ![t.val / 4, 0, 0] ∧ win0_3.index t = ![t.val / 4, 0, 0] ∧ win0_4.index t = ![0, 0] ∧ win0_5.index t = ![0, 0]
    ∧ win0_6.index t = ![0, 0] ∧ win0_7.index t = ![0, 0] ∧ win0_8.index t = ![t.val % 4, t.val / 4] ∧ win0_9.index t = ![t.val % 4, t.val / 4]
    ∧ win0_10.index t = ![t.val / 4, 0, t.val % 4, 0] ∧ win0_11.index t = ![t.val / 4, 0, t.val % 4, 0]
    ∧ win0_12.index t = ![t.val / 4, 0, t.val % 4, 0] ∧ win0_13.index t = ![t.val, 0] :=
  (by decide +kernel : ∀ t : Fin grid0.N, _)

theorem seq_lt (t : Fin cfg0.N) : t.val / 4 < 16 := by
  have := t.isLt; change t.val < 64 at this; omega

/-- The sequence of block `t`. -/
abbrev seq (t : Fin cfg0.N) : Fin 16 := ⟨t.val / 4, seq_lt t⟩

/-- The position of row `r` of block `t`. -/
abbrev pos (t : Fin cfg0.N) (r : Fin 512) : Fin 2048 := ⟨512 * (t.val % 4) + r.val, by omega⟩

/-- Eight columns padded to 128 at the right, at an index. -/
theorem pad_eight {R : Nat} (x : (⟨2, ![R, 8]⟩ : Shape).Idx → EReal) {u : Shape} (v : u.Idx → EReal)
    (h : (⟨2, ![R, 8]⟩ : Shape).Pads ![0, 0] ![0, 120] ![0, 0] ⟨2, ![R, 128]⟩) (hu : 0 < u.numel) (hv : v (Shape.Idx.first hu) = 0)
    (k : Fin R) (n : Fin 128) :
    pad ⟨2, ![R, 128]⟩ ![0, 0] ![0, 120] ![0, 0] x v h hu (ix2 k n) = if hn : n.val < 8 then x (ix2 k ⟨n.val, hn⟩) else 0 := by
  split_ifs with hn
  · refine pad_apply_of_inside _ _ _ x v h hu _ (ix2 k ⟨n.val, hn⟩) fun a => ?_
    fin_cases a
    · show k.val = 0 + k.val * 1; omega
    · show n.val = 0 + n.val * 1; omega
  · refine (pad_apply_of_not_inside _ _ _ x v h hu _ (1 : Fin 2) fun ha => hn ?_).trans hv
    have h3 : (n.val - 0) / 1 < 8 := ha.2.2
    omega

/-- The padding value: the integer zero, converted. -/
theorem zero_int : FloatOps.sitofp (F := Ideal) .f32 (0#32) = (0 : EReal) := by
  refine (Ideal.scalar_sitofp_def (φ := .f32) (0#32)).trans ?_
  simp

theorem read_x (c : Dev nD) (t : Fin cfg0.N) (r : Fin 512) (k : Fin 2048) :
    iblk m c 0 t (ix2 r k) = m ((c : Thread nD τ).loc main_arg0) (ix3 (seq t) (pos t r) k) := by
  blk_simp [iblk, idx t]
  simp only [V, hostOps0, hostOps0_1, hostOps0_2, List.flatten_cons, List.flatten_nil, List.append_nil, List.cons_append, List.nil_append]
  entry_read
  pointwise []
  blk_ext [idx t, pos, seq]

theorem read_g (c : Dev nD) (t : Fin cfg0.N) (k : Fin 2048) : iblk m c 1 t (ix2 0 k) = m ((c : Thread nD τ).loc main_arg1) (ix2 0 k) := by
  blk_simp [iblk, idx t]
  simp only [V, hostOps0, hostOps0_1, hostOps0_2, List.flatten_cons, List.flatten_nil, List.append_nil, List.cons_append, List.nil_append]
  entry_read
  pointwise []
  blk_ext [idx t]

theorem read_sc (c : Dev nD) (t : Fin cfg0.N) (k : Fin 2048) : iblk m c 2 t (ix3 0 0 k) = m ((c : Thread nD τ).loc main_arg2) (ix2 (seq t) k) := by
  blk_simp [iblk, idx t]
  simp only [V, hostOps0, hostOps0_1, hostOps0_2, List.flatten_cons, List.flatten_nil, List.append_nil, List.cons_append, List.nil_append]
  entry_read
  pointwise []
  blk_ext [idx t, seq]

theorem read_sh (c : Dev nD) (t : Fin cfg0.N) (k : Fin 2048) : iblk m c 3 t (ix3 0 0 k) = m ((c : Thread nD τ).loc main_arg3) (ix2 (seq t) k) := by
  blk_simp [iblk, idx t]
  simp only [V, hostOps0, hostOps0_1, hostOps0_2, List.flatten_cons, List.flatten_nil, List.append_nil, List.cons_append, List.nil_append]
  entry_read
  pointwise []
  blk_ext [idx t, seq]

theorem read_w (c : Dev nD) (t : Fin cfg0.N) (k : Fin 2048) (n : Fin 5120) :
    iblk m c 4 t (ix2 k n) = m ((c : Thread nD τ).loc main_arg4) (ix3 0 k ⟨n.val, by omega⟩) := by
  blk_simp [iblk, idx t]
  simp only [V, hostOps0, hostOps0_1, hostOps0_2, List.flatten_cons, List.flatten_nil, List.append_nil, List.cons_append, List.nil_append]
  entry_read
  pointwise []
  blk_ext [idx t]

theorem read_wf (c : Dev nD) (t : Fin cfg0.N) (k : Fin 2048) (n : Fin 128) :
    iblk m c 5 t (ix2 k n) = if h : n.val < 8 then m ((c : Thread nD τ).loc main_arg4) (ix3 0 k ⟨5120 + n.val, by omega⟩) else (0 : EReal) := by
  blk_simp [iblk, idx t]
  simp only [V, hostOps0, hostOps0_1, hostOps0_2, List.flatten_cons, List.flatten_nil, List.append_nil, List.cons_append, List.nil_append]
  entry_read
  simp only [StableHlo.TRef.toBuf, StableHlo.TRef.ofBuf, cast_eq]
  rw [show (((View.whole main_v6).slice (win0_5.rect t)).emb (ix2 k n)) = ix2 k n by blk_ext [idx t]]
  refine (pad_eight _ _ pads_S2048x8_S2048x128_000_01200 h_S_ ?_ k n).trans ?_
  · exact zero_int
  · pointwise []

theorem read_gq (c : Dev nD) (t : Fin cfg0.N) (d : Fin 128) : iblk m c 6 t (ix2 0 d) = m ((c : Thread nD τ).loc main_arg5) (ix2 0 d) := by
  blk_simp [iblk, idx t]
  simp only [V, hostOps0, hostOps0_1, hostOps0_2, List.flatten_cons, List.flatten_nil, List.append_nil, List.cons_append, List.nil_append]
  entry_read
  pointwise []
  blk_ext [idx t]

theorem read_gk (c : Dev nD) (t : Fin cfg0.N) (d : Fin 128) : iblk m c 7 t (ix2 0 d) = m ((c : Thread nD τ).loc main_arg6) (ix2 0 d) := by
  blk_simp [iblk, idx t]
  simp only [V, hostOps0, hostOps0_1, hostOps0_2, List.flatten_cons, List.flatten_nil, List.append_nil, List.cons_append, List.nil_append]
  entry_read
  pointwise []
  blk_ext [idx t]

/-- Column `n` of sequence `b`, among the columns stored time first. -/
abbrev lane (b : Fin 16) (n : Fin 1024) : Fin 16384 := ⟨1024 * b.val + n.val, by omega⟩

theorem timeFirst_lane (x : S16x2048x2048.Idx → EReal) (g : S1x2048.Idx → EReal) (sc sh : S16x2048.Idx → EReal) (w : S1x2048x5128.Idx → EReal)
    (o : Fin 4097) (s : Fin 2048) (b : Fin 16) (n : Fin 1024) :
    timeFirst x g sc sh w o s (lane b n) = projAt x g sc sh w b s ⟨o.val + n.val, by omega⟩ := by
  unfold timeFirst
  congr 1 <;> refine Fin.ext ?_
  · show (1024 * b.val + n.val) / 1024 = b.val; omega
  · show o.val + (1024 * b.val + n.val) % 1024 = o.val + n.val; omega

/-! ## The rows of a block -/

section Rows

variable (c : Dev nD) (t : Fin cfg0.N) (r : Fin 512)

theorem norm_eq : normRow (iblk m c 0 t) (iblk m c 1 t) (iblk m c 2 t) (iblk m c 3 t) r
    = normAt (m ((c : Thread nD τ).loc main_arg0)) (m ((c : Thread nD τ).loc main_arg1)) (m ((c : Thread nD τ).loc main_arg2))
      (m ((c : Thread nD τ).loc main_arg3)) (seq t) (pos t r) := by
  unfold normRow normAt
  simp only [read_x m c t r, read_g, read_sc, read_sh]

theorem proj_eq (n : Fin 5120) : projRow (iblk m c 0 t) (iblk m c 1 t) (iblk m c 2 t) (iblk m c 3 t) (iblk m c 4 t) r n
    = projAt (m ((c : Thread nD τ).loc main_arg0)) (m ((c : Thread nD τ).loc main_arg1)) (m ((c : Thread nD τ).loc main_arg2))
      (m ((c : Thread nD τ).loc main_arg3)) (m ((c : Thread nD τ).loc main_arg4)) (seq t) (pos t r) ⟨n.val, by omega⟩ := by
  unfold projRow projAt
  simp only [norm_eq, read_w]

theorem lane_eq (o : Fin 4097) (n : Fin 1024) (q : Fin 5120) (hq : q.val = o.val + n.val) :
    projRow (iblk m c 0 t) (iblk m c 1 t) (iblk m c 2 t) (iblk m c 3 t) (iblk m c 4 t) r q
      = timeFirst (m ((c : Thread nD τ).loc main_arg0)) (m ((c : Thread nD τ).loc main_arg1)) (m ((c : Thread nD τ).loc main_arg2))
        (m ((c : Thread nD τ).loc main_arg3)) (m ((c : Thread nD τ).loc main_arg4)) o (pos t r) (lane (seq t) n) := by
  rw [timeFirst_lane, proj_eq]
  exact congrArg _ (Fin.ext hq)

theorem head_eq (o : Fin 4097) (h : Fin 8) (d : Fin 128) (q : Fin 5120) (hq : q.val = o.val + (col h d).val) :
    projRow (iblk m c 0 t) (iblk m c 1 t) (iblk m c 2 t) (iblk m c 3 t) (iblk m c 4 t) r q
      = headAt (m ((c : Thread nD τ).loc main_arg0)) (m ((c : Thread nD τ).loc main_arg1)) (m ((c : Thread nD τ).loc main_arg2))
        (m ((c : Thread nD τ).loc main_arg3)) (m ((c : Thread nD τ).loc main_arg4)) o (seq t) h (pos t r) d := by
  rw [proj_eq]
  exact congrArg _ (Fin.ext hq)

theorem query_eq (h : Fin 8) (d : Fin 128) :
    rms 0x43000000#32 (fun d => projRow (iblk m c 0 t) (iblk m c 1 t) (iblk m c 2 t) (iblk m c 3 t) (iblk m c 4 t) r ⟨2048 + (col h d).val, by omega⟩)
        (fun d => HMul.hMul (α := EReal) (β := EReal) (γ := EReal) (iblk m c 6 t (ix2 0 d)) (Named.named (F := Ideal) (φ := .f32) κ "q_scale" 0x3E0293EE#32)) d
      = queryAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (seq t) h (pos t r) d := by
  unfold queryAt qScale
  simp only [head_eq m c t r 2048 h _ ⟨2048 + (col h _).val, _⟩ rfl, read_gq]

theorem key_eq (h : Fin 8) (d : Fin 128) :
    rms 0x43000000#32 (fun d => projRow (iblk m c 0 t) (iblk m c 1 t) (iblk m c 2 t) (iblk m c 3 t) (iblk m c 4 t) r ⟨3072 + (col h d).val, by omega⟩)
        (fun d => iblk m c 7 t (ix2 0 d)) d
      = keyAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) (seq t) h (pos t r) d := by
  unfold keyAt
  simp only [head_eq m c t r 3072 h _ ⟨3072 + (col h _).val, _⟩ rfl, read_gk]

theorem forget_eq (n : Fin 128) : (∑ k, normRow (iblk m c 0 t) (iblk m c 1 t) (iblk m c 2 t) (iblk m c 3 t) r k * iblk m c 5 t (ix2 k n) : EReal)
    = if h : n.val < 8 then projAt (m ((c : Thread nD τ).loc main_arg0)) (m ((c : Thread nD τ).loc main_arg1)) (m ((c : Thread nD τ).loc main_arg2))
      (m ((c : Thread nD τ).loc main_arg3)) (m ((c : Thread nD τ).loc main_arg4)) (seq t) (pos t r) ⟨5120 + n.val, by omega⟩ else 0 := by
  unfold projAt
  simp only [norm_eq, read_wf]
  split_ifs with h
  · rfl
  · exact Finset.sum_eq_zero fun k _ => mul_zero _

end Rows

/-- Row `r` of block `t`, among all rows. -/
abbrev row (t : Fin cfg0.N) (r : Fin 512) : Fin 32768 := ⟨512 * t.val + r.val, by have := t.isLt; change t.val < 64 at this; omega⟩

theorem forgetAt_row (x : S16x2048x2048.Idx → EReal) (g : S1x2048.Idx → EReal) (sc sh : S16x2048.Idx → EReal) (w : S1x2048x5128.Idx → EReal)
    (t : Fin cfg0.N) (r : Fin 512) (n : Fin 128) :
    forgetAt x g sc sh w (row t r) n
      = if h : n.val < 8 then projAt x g sc sh w (seq t) (pos t r) ⟨5120 + n.val, by omega⟩ else 0 := by
  unfold forgetAt
  split_ifs with h
  · congr 1 <;> refine Fin.ext ?_
    · show (512 * t.val + r.val) / 2048 = t.val / 4; omega
    · show (512 * t.val + r.val) % 2048 = 512 * (t.val % 4) + r.val; omega
  · rfl

/-! ## The six arrays after the call -/

theorem final8 (c : Dev nD) :
    (dats m 0 c).arrAt 8 cfg0.N = recX (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  obtain ⟨u, rfl⟩ : ∃ u : S512x1024.Idx, u = y := ⟨y, rfl⟩
  have hu : u = ix2 (u 0) (u 1) := by funext a; fin_cases a <;> rfl
  generalize (u 0 : Fin 512) = r at hu
  generalize (u 1 : Fin 1024) = n at hu
  subst hu
  refine (out8_apply _ _ _ _ _ _ _ _ r n).trans ((lane_eq m c t r 0 n _ (Nat.zero_add n.val).symm).trans ?_)
  refine congrArg (recX _ _ _ _ _) (a₁ := ix2 (pos t r) (lane (seq t) n)) ?_
  blk_ext [idx t]

theorem final9 (c : Dev nD) :
    (dats m 0 c).arrAt 9 cfg0.N = recY (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  obtain ⟨u, rfl⟩ : ∃ u : S512x1024.Idx, u = y := ⟨y, rfl⟩
  have hu : u = ix2 (u 0) (u 1) := by funext a; fin_cases a <;> rfl
  generalize (u 0 : Fin 512) = r at hu
  generalize (u 1 : Fin 1024) = n at hu
  subst hu
  refine (out9_apply _ _ _ _ _ _ _ _ r n).trans ((lane_eq m c t r 1024 n _ rfl).trans ?_)
  refine congrArg (recY _ _ _ _ _) (a₁ := ix2 (pos t r) (lane (seq t) n)) ?_
  blk_ext [idx t]

theorem final10 (c : Dev nD) :
    (dats m 0 c).arrAt 10 cfg0.N = query (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  obtain ⟨u, rfl⟩ : ∃ u : S1x8x512x128.Idx, u = y := ⟨y, rfl⟩
  have hu : u = ix4 0 (u 1) (u 2) (u 3) := by funext a; fin_cases a <;> first | rfl | exact Subsingleton.elim (α := Fin 1) _ _
  generalize (u 1 : Fin 8) = h at hu
  generalize (u 2 : Fin 512) = r at hu
  generalize (u 3 : Fin 128) = d at hu
  subst hu
  refine (out10_apply _ _ _ _ _ _ _ _ h r d).trans ((query_eq m c t r h d).trans ?_)
  refine congrArg (query _ _ _ _ _ _) (a₁ := ix4 (seq t) h (pos t r) d) ?_
  blk_ext [idx t]

theorem final11 (c : Dev nD) :
    (dats m 0 c).arrAt 11 cfg0.N = key (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t _ y => ?_
  blk_simp
  rw [after0_11]
  obtain ⟨u, rfl⟩ : ∃ u : S1x8x512x128.Idx, u = y := ⟨y, rfl⟩
  have hu : u = ix4 0 (u 1) (u 2) (u 3) := by funext a; fin_cases a <;> first | rfl | exact Subsingleton.elim (α := Fin 1) _ _
  generalize (u 1 : Fin 8) = h at hu
  generalize (u 2 : Fin 512) = r at hu
  generalize (u 3 : Fin 128) = d at hu
  subst hu
  refine (out11_apply _ _ _ _ _ _ _ _ h r d).trans ((key_eq m c t r h d).trans ?_)
  refine congrArg (key _ _ _ _ _ _) (a₁ := ix4 (seq t) h (pos t r) d) ?_
  blk_ext [idx t]

theorem final12 (c : Dev nD) :
    (dats m 0 c).arrAt 12 cfg0.N = value (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 12 _ (by decide +kernel) fun t _ y => ?_
  blk_simp
  rw [after0_12]
  obtain ⟨u, rfl⟩ : ∃ u : S1x8x512x128.Idx, u = y := ⟨y, rfl⟩
  have hu : u = ix4 0 (u 1) (u 2) (u 3) := by funext a; fin_cases a <;> first | rfl | exact Subsingleton.elim (α := Fin 1) _ _
  generalize (u 1 : Fin 8) = h at hu
  generalize (u 2 : Fin 512) = r at hu
  generalize (u 3 : Fin 128) = d at hu
  subst hu
  refine (out12_apply _ _ _ _ _ _ _ _ h r d).trans ((head_eq m c t r 4096 h d _ rfl).trans ?_)
  refine congrArg (value _ _ _ _ _) (a₁ := ix4 (seq t) h (pos t r) d) ?_
  blk_ext [idx t]

theorem final13 (c : Dev nD) :
    (dats m 0 c).arrAt 13 cfg0.N = forget (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t _ y => ?_
  blk_simp
  rw [after0_13]
  obtain ⟨u, rfl⟩ : ∃ u : S512x128.Idx, u = y := ⟨y, rfl⟩
  have hu : u = ix2 (u 0) (u 1) := by funext a; fin_cases a <;> rfl
  generalize (u 0 : Fin 512) = r at hu
  generalize (u 1 : Fin 128) = n at hu
  subst hu
  refine (out13_apply _ _ _ _ _ _ _ _ r n).trans (((forget_eq m c t r n).trans (forgetAt_row _ _ _ _ _ t r n).symm).trans ?_)
  refine congrArg (forget _ _ _ _ _) (a₁ := ix2 (row t r) n) ?_
  blk_ext [idx t]

end Cert.InProj

end
-- ==== Proof.In.Plain.lean ====
/- The input projection: the plain program's six results. -/
module

public import proofs.«01_k».proof.Proof.In.Array
public import proofs.«01_k».proof.Proof.Gen.ReferenceInIdeal.Read

@[expose] public section

set_option maxRecDepth 16384

noncomputable section

namespace Cert.InProj

open Idealize.ShloMosaic Idealize.ShloMosaic.TcCoe Idealize.ShloMosaic.Pointwise Idealize.SL.Sem Cert.Norm
open Cert.ReferenceInIdeal Cert.ReferenceInIdeal.Gen Cert.ReferenceInIdeal.Read

/-! ## The words of the constants -/

theorem zero_word : Ideal.ofBits .f32 0x00000000#32 = 0 := by simp [Ideal.ofBits, Ideal.ieee]

theorem one_word : Ideal.ofBits .f32 0x3F800000#32 = 1 := by
  show Ideal.ofBits .f32 0x3F800000#32 = _
  simp [Ideal.ofBits, Ideal.ieee]
  refine (EReal.coe_mul (8388608 : ℝ) _).symm.trans ((congrArg _ ?_).trans EReal.coe_one)
  norm_num

theorem two_word : Ideal.ofBits .f32 0x40000000#32 = ((2 : ℝ) : EReal) := by
  show Ideal.ofBits .f32 0x40000000#32 = _
  simp [Ideal.ofBits, Ideal.ieee]
  refine (EReal.coe_mul (8388608 : ℝ) _).symm.trans (congrArg _ ?_)
  norm_num

theorem width_word : Ideal.ofBits .f32 0x43000000#32 = ((128 : ℝ) : EReal) := by
  show Ideal.ofBits .f32 0x43000000#32 = _
  simp [Ideal.ofBits, Ideal.ieee]
  refine (EReal.coe_mul (8388608 : ℝ) _).symm.trans (congrArg _ ?_)
  norm_num

theorem root_width (i : S_.Idx) : val_main_v46 (F := Ideal) i = ((Real.sqrt 128 : ℝ) : EReal) := by
  rw [val_main_v46_apply, val_main_cst_6_apply, Ideal.hostUnary_sqrt_def]
  refine (congrArg Ideal.sqrt width_word).trans ?_
  rw [Ideal.sqrt_coe, if_neg (by norm_num)]

theorem log_two (i : S_.Idx) : val_main_v49 (F := Ideal) i = ((Real.log 2 : ℝ) : EReal) := by
  rw [val_main_v49_apply, val_main_cst_7_apply, Ideal.hostUnary_log_def]
  refine (congrArg Ideal.log two_word).trans ?_
  rw [Ideal.log_coe, if_neg (by norm_num)]

theorem qScale_eq : qScale = (((Real.sqrt 128)⁻¹ * (Real.log 2)⁻¹ : ℝ) : EReal) :=
  IdealRules.named_const.ideal_named_scalar _ _ _ _ rfl

/-- Two divisions are one multiplication by the factor of the queries. -/
theorem scaled (x : EReal) : Ideal.div (Ideal.div x ((Real.sqrt 128 : ℝ) : EReal)) ((Real.log 2 : ℝ) : EReal) = x * qScale := by
  rw [Ideal.div_coe (by have : Real.log 2 > 0 := Real.log_pos (by norm_num); exact this.ne'),
    Ideal.div_coe (by have : Real.sqrt 128 > 0 := Real.sqrt_pos.2 (by norm_num); exact this.ne'), qScale_eq, mul_assoc, ← EReal.coe_mul, one_div, one_div]

variable (x0 : FVec Ideal S16x2048x2048 .f32) (x1 : FVec Ideal S1x2048 .f32) (x2 x3 : FVec Ideal S16x2048 .f32)
  (x4 : FVec Ideal S1x2048x5128 .f32) (x5 x6 : FVec Ideal S1x128 .f32) (b : Fin 16) (s : Fin 2048)

/-! ## The normalised, modulated row -/

theorem sq_apply : val_main_v2 (F := Ideal) x0 (ix2 b s) = ∑ k, x0 (ix3 b s k) * x0 (ix3 b s k) := by
  rw [val_main_v2_apply, val_main_cst_apply]
  refine (congrArg₂ (· + ·) zero_word (Finset.sum_congr rfl fun k _ => ?_)).trans (zero_add _)
  rw [val_main_v1_apply, show idx_main_v2 (ix2 b s) k = ix3 b s k by funext a; fin_cases a <;> rfl, Ideal.mulf_def]

theorem inv_apply : val_main_v8 (F := Ideal) x0 (ix3 b s 0) = inv 0x45000000#32 (∑ k, x0 (ix3 b s k) * x0 (ix3 b s k)) := by
  rw [val_main_v8_apply, val_main_v7_apply, val_main_v5_apply, val_main_v6_apply, val_main_cst_1_apply, val_main_v4_apply, val_main_cst_0_apply,
    val_main_v3_apply, show idx_main_v3 (ix3 b s 0) = ix2 b s by funext a; fin_cases a <;> rfl, sq_apply]
  rfl

theorem gain_apply (k : Fin 2048) : val_main_v12 (F := Ideal) x1 (ix3 b s k) = x1 (ix2 0 k) := by
  rw [val_main_v12_apply, val_main_v11_apply, val_main_v0_apply]
  refine congrArg x1 ?_
  funext a; refine Fin.ext ?_
  fin_cases a
  · rfl
  · show k.val % 2048 = k.val; omega

theorem scale_apply (k : Fin 2048) : val_main_v17 (F := Ideal) x2 (ix3 b s k) = 1 + x2 (ix2 b k) := by
  rw [val_main_v17_apply, val_main_v16_apply, val_main_v15_apply, val_main_cst_2_apply, val_main_v14_apply]
  exact congrArg₂ (· + ·) one_word (congrArg x2 (by funext a; fin_cases a <;> rfl))

theorem shift_apply (k : Fin 2048) : val_main_v20 (F := Ideal) x3 (ix3 b s k) = x3 (ix2 b k) := by
  rw [val_main_v20_apply, val_main_v19_apply]
  exact congrArg x3 (by funext a; fin_cases a <;> rfl)

theorem norm_apply (k : Fin 2048) : val_main_v21 (F := Ideal) x0 x1 x2 x3 (ix3 b s k) = normAt x0 x1 x2 x3 b s k := by
  rw [val_main_v21_apply, val_main_v18_apply, val_main_v13_apply, val_main_v10_apply, val_main_v9_apply,
    show idx_main_v9 (ix3 b s k) = ix3 b s 0 by funext a; fin_cases a <;> rfl, inv_apply, gain_apply, scale_apply, shift_apply]
  rfl

/-! ## The product -/

theorem w_apply (k : Fin 2048) (n : Fin 5128) : val_main_v22 (F := Ideal) x4 (ix2 k n) = x4 (ix3 0 k n) := by
  rw [val_main_v22_apply]
  refine congrArg x4 ?_
  funext a; refine Fin.ext ?_
  fin_cases a
  · rfl
  · show (k.val * 5128 + n.val) / 5128 % 2048 = k.val; omega
  · show (k.val * 5128 + n.val) % 5128 = n.val; omega

theorem proj_apply (n : Fin 5128) : val_main_v23 (F := Ideal) x0 x1 x2 x3 x4 (ix3 b s n) = projAt x0 x1 x2 x3 x4 b s n := by
  rw [val_main_v23_apply]
  refine Finset.sum_congr rfl fun k _ => ?_
  rw [show lidx_main_v23 (ix3 b s n) k = ix3 b s k by funext a; fin_cases a <;> rfl,
    show ridx_main_v23 (ix3 b s n) k = ix2 k n by funext a; fin_cases a <;> rfl, norm_apply, w_apply]

/-! ## The heads -/

theorem heads_idx (h : Fin 8) (d : Fin 128) : idx_main_v30 (idx_main_v31 (ix4 b h s d)) = ix3 b s (col h d) := by
  funext a; refine Fin.ext ?_
  fin_cases a
  · show (((b.val * 2048 + s.val) * 8 + h.val) * 128 + d.val) / 2097152 = b.val; omega
  · show (((b.val * 2048 + s.val) * 8 + h.val) * 128 + d.val) / 1024 % 2048 = s.val; omega
  · show (((b.val * 2048 + s.val) * 8 + h.val) * 128 + d.val) % 1024 = 128 * h.val + d.val; omega

theorem query_head (h : Fin 8) (d : Fin 128) :
    val_main_v31 (F := Ideal) x0 x1 x2 x3 x4 (ix4 b h s d) = headAt x0 x1 x2 x3 x4 2048 b h s d := by
  rw [val_main_v31_apply, val_main_v30_apply, val_main_v26_apply, show idx_main_v30 (idx_main_v31 (ix4 b h s d)) = ix3 b s (col h d) from heads_idx b s h d]
  exact (congrArg _ (by funext a; fin_cases a <;> rfl)).trans (proj_apply x0 x1 x2 x3 x4 b s _)

theorem key_head (h : Fin 8) (d : Fin 128) :
    val_main_v53 (F := Ideal) x0 x1 x2 x3 x4 (ix4 b h s d) = headAt x0 x1 x2 x3 x4 3072 b h s d := by
  rw [val_main_v53_apply, val_main_v52_apply, val_main_v27_apply, show idx_main_v52 (idx_main_v53 (ix4 b h s d)) = ix3 b s (col h d) from heads_idx b s h d]
  exact (congrArg _ (by funext a; fin_cases a <;> rfl)).trans (proj_apply x0 x1 x2 x3 x4 b s _)

theorem value_head (h : Fin 8) (d : Fin 128) :
    val_main_v77 (F := Ideal) x0 x1 x2 x3 x4 (ix4 b h s d) = headAt x0 x1 x2 x3 x4 4096 b h s d := by
  rw [val_main_v77_apply, val_main_v76_apply, val_main_v28_apply, show idx_main_v76 (idx_main_v77 (ix4 b h s d)) = ix3 b s (col h d) from heads_idx b s h d]
  exact (congrArg _ (by funext a; fin_cases a <;> rfl)).trans (proj_apply x0 x1 x2 x3 x4 b s _)

theorem query_sq (h : Fin 8) : val_main_v34 (F := Ideal) x0 x1 x2 x3 x4 (ix3 b h s)
    = ∑ d, headAt x0 x1 x2 x3 x4 2048 b h s d * headAt x0 x1 x2 x3 x4 2048 b h s d := by
  rw [val_main_v34_apply, val_main_cst_3_apply]
  refine (congrArg₂ (· + ·) zero_word (Finset.sum_congr rfl fun d _ => ?_)).trans (zero_add _)
  rw [val_main_v33_apply, show idx_main_v34 (ix3 b h s) d = ix4 b h s d by funext a; fin_cases a <;> rfl, query_head, Ideal.mulf_def]

theorem query_inv (h : Fin 8) : val_main_v40 (F := Ideal) x0 x1 x2 x3 x4 (ix4 b h s 0)
    = inv 0x43000000#32 (∑ d, headAt x0 x1 x2 x3 x4 2048 b h s d * headAt x0 x1 x2 x3 x4 2048 b h s d) := by
  rw [val_main_v40_apply, val_main_v39_apply, val_main_v37_apply, val_main_v38_apply, val_main_cst_5_apply, val_main_v36_apply, val_main_cst_4_apply,
    val_main_v35_apply, show idx_main_v35 (ix4 b h s 0) = ix3 b h s by funext a; fin_cases a <;> rfl, query_sq]
  rfl

theorem query_gain (h : Fin 8) (d : Fin 128) : val_main_v44 (F := Ideal) x5 (ix4 b h s d) = x5 (ix2 0 d) := by
  rw [val_main_v44_apply, val_main_v43_apply, val_main_v32_apply]
  refine congrArg x5 ?_
  funext a; refine Fin.ext ?_
  fin_cases a
  · rfl
  · show d.val % 128 = d.val; omega

theorem query_norm (h : Fin 8) (d : Fin 128) : val_main_v45 (F := Ideal) x0 x1 x2 x3 x4 x5 (ix4 b h s d)
    = rms 0x43000000#32 (headAt x0 x1 x2 x3 x4 2048 b h s) (fun d => x5 (ix2 0 d)) d := by
  rw [val_main_v45_apply, val_main_v42_apply, val_main_v41_apply,
    show idx_main_v41 (ix4 b h s d) = ix4 b h s 0 by funext a; fin_cases a <;> rfl, query_inv, query_gain, query_head]
  rfl

theorem key_sq (h : Fin 8) : val_main_v56 (F := Ideal) x0 x1 x2 x3 x4 (ix3 b h s)
    = ∑ d, headAt x0 x1 x2 x3 x4 3072 b h s d * headAt x0 x1 x2 x3 x4 3072 b h s d := by
  rw [val_main_v56_apply, val_main_cst_8_apply]
  refine (congrArg₂ (· + ·) zero_word (Finset.sum_congr rfl fun d _ => ?_)).trans (zero_add _)
  rw [val_main_v55_apply, show idx_main_v56 (ix3 b h s) d = ix4 b h s d by funext a; fin_cases a <;> rfl, key_head, Ideal.mulf_def]

theorem key_inv (h : Fin 8) : val_main_v62 (F := Ideal) x0 x1 x2 x3 x4 (ix4 b h s 0)
    = inv 0x43000000#32 (∑ d, headAt x0 x1 x2 x3 x4 3072 b h s d * headAt x0 x1 x2 x3 x4 3072 b h s d) := by
  rw [val_main_v62_apply, val_main_v61_apply, val_main_v59_apply, val_main_v60_apply, val_main_cst_10_apply, val_main_v58_apply, val_main_cst_9_apply,
    val_main_v57_apply, show idx_main_v57 (ix4 b h s 0) = ix3 b h s by funext a; fin_cases a <;> rfl, key_sq]
  rfl

theorem key_gain (h : Fin 8) (d : Fin 128) : val_main_v66 (F := Ideal) x6 (ix4 b h s d) = x6 (ix2 0 d) := by
  rw [val_main_v66_apply, val_main_v65_apply, val_main_v54_apply]
  refine congrArg x6 ?_
  funext a; refine Fin.ext ?_
  fin_cases a
  · rfl
  · show d.val % 128 = d.val; omega

theorem key_norm (h : Fin 8) (d : Fin 128) : val_main_v67 (F := Ideal) x0 x1 x2 x3 x4 x6 (ix4 b h s d)
    = rms 0x43000000#32 (headAt x0 x1 x2 x3 x4 3072 b h s) (fun d => x6 (ix2 0 d)) d := by
  rw [val_main_v67_apply, val_main_v64_apply, val_main_v63_apply,
    show idx_main_v63 (ix4 b h s d) = ix4 b h s 0 by funext a; fin_cases a <;> rfl, key_inv, key_gain, key_head]
  rfl

/-! ## The six results -/

theorem time_idx (c : Fin 16384) : idx_main_v70 (idx_main_v71 (ix2 s c)) = ix3 ⟨c.val / 1024, by omega⟩ s ⟨c.val % 1024, by omega⟩ := by
  funext a; refine Fin.ext ?_
  fin_cases a
  · show (s.val * 16384 + c.val) / 1024 % 16 = c.val / 1024; omega
  · show (s.val * 16384 + c.val) / 16384 = s.val; omega
  · show (s.val * 16384 + c.val) % 1024 = c.val % 1024; omega

theorem plain_recX : val_main_v71 (F := Ideal) x0 x1 x2 x3 x4 = recX x0 x1 x2 x3 x4 := by
  funext u
  obtain ⟨s, c, rfl⟩ : ∃ (s : Fin 2048) (c : Fin 16384), u = ix2 s c := ⟨u 0, u 1, by funext a; fin_cases a <;> rfl⟩
  rw [val_main_v71_apply, val_main_v70_apply, val_main_v24_apply, time_idx]
  refine (congrArg _ ?_).trans (proj_apply x0 x1 x2 x3 x4 ⟨c.val / 1024, by omega⟩ s ⟨0 + c.val % 1024, by omega⟩)
  funext a; refine Fin.ext ?_
  fin_cases a
  · rfl
  · rfl
  · exact (Nat.zero_add _).symm

theorem plain_recY : val_main_v73 (F := Ideal) x0 x1 x2 x3 x4 = recY x0 x1 x2 x3 x4 := by
  funext u
  obtain ⟨s, c, rfl⟩ : ∃ (s : Fin 2048) (c : Fin 16384), u = ix2 s c := ⟨u 0, u 1, by funext a; fin_cases a <;> rfl⟩
  rw [val_main_v73_apply, val_main_v72_apply, val_main_v25_apply, show idx_main_v72 (idx_main_v73 (ix2 s c)) = _ from time_idx s c]
  refine (congrArg _ ?_).trans (proj_apply x0 x1 x2 x3 x4 ⟨c.val / 1024, by omega⟩ s ⟨1024 + c.val % 1024, by omega⟩)
  funext a; fin_cases a <;> rfl

theorem plain_query : val_main_v74 (F := Ideal) x0 x1 x2 x3 x4 x5 = query x0 x1 x2 x3 x4 x5 := by
  funext u
  obtain ⟨b, h, s, d, rfl⟩ : ∃ (b : Fin 16) (h : Fin 8) (s : Fin 2048) (d : Fin 128), u = ix4 b h s d :=
    ⟨u 0, u 1, u 2, u 3, by funext a; fin_cases a <;> rfl⟩
  rw [val_main_v74_apply, val_main_v51_apply, val_main_v50_apply, log_two, val_main_v48_apply, val_main_v47_apply, root_width, query_norm,
    Ideal.truncf_def, Ideal.hostDivf_def, Ideal.hostDivf_def]
  refine (scaled _).trans ?_
  unfold rms
  rw [mul_assoc]
  rfl

theorem plain_key : val_main_v75 (F := Ideal) x0 x1 x2 x3 x4 x6 = key x0 x1 x2 x3 x4 x6 := by
  funext u
  obtain ⟨b, h, s, d, rfl⟩ : ∃ (b : Fin 16) (h : Fin 8) (s : Fin 2048) (d : Fin 128), u = ix4 b h s d :=
    ⟨u 0, u 1, u 2, u 3, by funext a; fin_cases a <;> rfl⟩
  rw [val_main_v75_apply, key_norm]
  rfl

theorem plain_value : val_main_v78 (F := Ideal) x0 x1 x2 x3 x4 = value x0 x1 x2 x3 x4 := by
  funext u
  obtain ⟨b, h, s, d, rfl⟩ : ∃ (b : Fin 16) (h : Fin 8) (s : Fin 2048) (d : Fin 128), u = ix4 b h s d :=
    ⟨u 0, u 1, u 2, u 3, by funext a; fin_cases a <;> rfl⟩
  rw [val_main_v78_apply, value_head]
  rfl

theorem forget_apply (r : Fin 32768) (n : Fin 8) : val_main_v68 (F := Ideal) x0 x1 x2 x3 x4 (ix2 r n)
    = projAt x0 x1 x2 x3 x4 ⟨r.val / 2048, by omega⟩ ⟨r.val % 2048, by omega⟩ ⟨5120 + n.val, by omega⟩ := by
  rw [val_main_v68_apply, val_main_v29_apply]
  refine (congrArg _ ?_).trans (proj_apply x0 x1 x2 x3 x4 _ _ _)
  funext a; refine Fin.ext ?_
  fin_cases a
  · show (r.val * 8 + n.val) / 16384 = r.val / 2048; omega
  · show (r.val * 8 + n.val) / 8 % 2048 = r.val % 2048; omega
  · show 5120 + (r.val * 8 + n.val) % 8 = 5120 + n.val; omega

theorem plain_forget : val_main_v69 (F := Ideal) x0 x1 x2 x3 x4 = forget x0 x1 x2 x3 x4 := by
  funext u
  obtain ⟨r, n, rfl⟩ : ∃ (r : Fin 32768) (n : Fin 128), u = ix2 r n := ⟨u 0, u 1, by funext a; fin_cases a <;> rfl⟩
  unfold val_main_v69
  refine (pad_eight (val_main_v68 (F := Ideal) x0 x1 x2 x3 x4) _ pads_S32768x8_S32768x128_000_01200 h_S_ zero_int r n).trans ?_
  simp only [forget_apply]
  rfl

end Cert.InProj

end
-- ==== Proof.In.Equation.lean ====
/- The input projection's equation: the kernel and the plain program end with equal results. -/
module

public import proofs.«01_k».proof.Defs
public import proofs.«01_k».proof.Proof.In.Plain
public import proofs.«01_k».proof.Proof.Gen.KernelInIdeal.Value

@[expose] public section

set_option maxRecDepth 16384

noncomputable section

namespace Cert.InProj

open Idealize.ShloMosaic Idealize.ShloMosaic.TcCoe Idealize.SL.Sem
open Cert.ReferenceInIdeal.Read

theorem algebraic : Cert.algebraic_KernelInIdeal_ReferenceInIdeal := fun m ρ m' ρ' _ hag => by
  refine ⟨fun c => recX (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4)),
    fun c => recY (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4)),
    fun c => query (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4))
      (m ((c.tc : Thread Cert.KernelInIdeal.nD Cert.KernelInIdeal.τ).loc Cert.KernelInIdeal.main_arg5)),
    fun c => key (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4))
      (m ((c.tc : Thread Cert.KernelInIdeal.nD Cert.KernelInIdeal.τ).loc Cert.KernelInIdeal.main_arg6)),
    fun c => value (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4)),
    fun c => forget (m ((c.tc : Thread Cert.KernelInIdeal.nD Cert.KernelInIdeal.τ).loc Cert.KernelInIdeal.main_arg0))
      (m ((c.tc : Thread Cert.KernelInIdeal.nD Cert.KernelInIdeal.τ).loc Cert.KernelInIdeal.main_arg1))
      (m ((c.tc : Thread Cert.KernelInIdeal.nD Cert.KernelInIdeal.τ).loc Cert.KernelInIdeal.main_arg2))
      (m ((c.tc : Thread Cert.KernelInIdeal.nD Cert.KernelInIdeal.τ).loc Cert.KernelInIdeal.main_arg3))
      (m ((c.tc : Thread Cert.KernelInIdeal.nD Cert.KernelInIdeal.τ).loc Cert.KernelInIdeal.main_arg4)),
    (θ_run _ _ _).mono (fun _ h c => ⟨(h c).1.trans (final8 m c),
        (h c).2.1.trans (final9 m c),
        (h c).2.2.1.trans (final10 m c),
        (h c).2.2.2.1.trans (final11 m c),
        (h c).2.2.2.2.1.trans (final12 m c),
        (h c).2.2.2.2.2.1.trans (final13 m c), (h c).2.2.2.2.2.2⟩)
      (Cert.KernelInIdeal.Value.run_blocks m ρ),
    (θ_run _ _ _).mono (fun _ h c => ⟨(h c).1.trans ((val_main_v71_eq _ _ _ _ _).trans ?_),
        (h c).2.1.trans ((val_main_v73_eq _ _ _ _ _).trans ?_),
        (h c).2.2.1.trans ((val_main_v74_eq m' c).trans ?_),
        (h c).2.2.2.1.trans ((val_main_v75_eq m' c).trans ?_),
        (h c).2.2.2.2.1.trans ((val_main_v78_eq _ _ _ _ _).trans ?_),
        (h c).2.2.2.2.2.1.trans ((val_main_v69_eq _ _ _ _ _).trans ?_), (h c).2.2.2.2.2.2⟩)
      (Cert.ReferenceInIdeal.Value.run m' ρ')⟩
  all_goals obtain ⟨a0, a1, a2, a3, a4, a5, a6⟩ := hag c
  · rw [a0, a1, a2, a3, a4]
    exact plain_recX _ _ _ _ _
  · rw [a0, a1, a2, a3, a4]
    exact plain_recY _ _ _ _ _
  · rw [a0, a1, a2, a3, a4, a5]
    exact plain_query _ _ _ _ _ _
  · rw [a0, a1, a2, a3, a4, a6]
    exact plain_key _ _ _ _ _ _
  · rw [a0, a1, a2, a3, a4]
    exact plain_value _ _ _ _ _
  · rw [a0, a1, a2, a3, a4]
    exact plain_forget _ _ _ _ _

end Cert.InProj

end
-- ==== Proof.Mod.Equation.lean ====
/- The modulation vectors: what one block computes, the whole output, and the equation with the plain program. -/
module

public import proofs.«01_k».proof.Defs
public import proofs.«01_k».proof.Proof.Gen.KernelModIdeal.Value
public import proofs.«01_k».proof.Proof.Gen.ReferenceModIdeal.Read
public import proofs.«01_k».proof.Proof.Ffn.UpEquation

@[expose] public section

set_option maxRecDepth 16384

noncomputable section

namespace Cert.Mod

open Idealize.ShloMosaic Idealize.ShloMosaic.TcCoe Idealize.ShloMosaic.Pointwise Idealize.ShloMosaic.Pipeline Idealize.SL.Sem

section Spec

open Cert.KernelModIdeal

/-- Entry `n` of the modulation vector of sequence `b`. -/
def entry (c : S16x2048.Idx → EReal) (w : S1x2048x12288.Idx → EReal) (bias : S1x12288.Idx → EReal) (b : Fin 16) (n : Fin 12288) : EReal :=
  (∑ d : Fin 2048, c (ix2 b d) * Ideal.logistic (c (ix2 b d)) * w (ix3 0 d n)) + bias (ix2 0 n)

/-- The modulation vectors. -/
def vectors (c : S16x2048.Idx → EReal) (w : S1x2048x12288.Idx → EReal) (bias : S1x12288.Idx → EReal) (i : S16x12288.Idx) : EReal :=
  entry c w bias (i 0) (i 1)

end Spec

section Kernel

open Cert.KernelModIdeal Cert.KernelModIdeal.Gen

/-- One entry of a block. -/
theorem pay_apply (x : FVec Ideal S16x2048 .f32) (w : FVec Ideal S2048x1024 .f32) (bias : FVec Ideal S1x1024 .f32) (b : Fin 16) (n : Fin 1024) :
    k0_pay1 x w bias (ix2 b n)
      = (∑ d : Fin 2048, x (ix2 b d) * Ideal.logistic (x (ix2 b d)) * w (ix2 d n)) + bias (ix2 0 n) := by
  pointwise [k0_pay1]

variable (m : (ℓ : Loc nD τ sig) → Buf (Elt Ideal) ℓ)

theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

theorem col_lt (t : Fin cfg0.N) (n : Fin 1024) : 1024 * t.val + n.val < 12288 := by
  have := t.isLt; change t.val < 12 at this; omega

theorem read_c (c : Dev nD) (t : Fin cfg0.N) (b : Fin 16) (d : Fin 2048) :
    iblk m c 0 t (ix2 b d) = m ((c : Thread nD τ).loc main_arg0) (ix2 b d) := by
  blk_point [iblk, V, idx t]

theorem read_w (c : Dev nD) (t : Fin cfg0.N) (d : Fin 2048) (n : Fin 1024) :
    iblk m c 1 t (ix2 d n) = m ((c : Thread nD τ).loc main_arg1) (ix3 0 d ⟨1024 * t.val + n.val, col_lt t n⟩) := by
  blk_simp [iblk, idx t]
  entry_read
  pointwise []
  blk_ext [idx t]

theorem read_b (c : Dev nD) (t : Fin cfg0.N) (n : Fin 1024) :
    iblk m c 2 t (ix2 0 n) = m ((c : Thread nD τ).loc main_arg2) (ix2 0 ⟨1024 * t.val + n.val, col_lt t n⟩) := by
  blk_simp [iblk, idx t]
  entry_read
  pointwise []
  blk_ext [idx t]

theorem block (c : Dev nD) (t : Fin cfg0.N) (b : Fin 16) (n : Fin 1024) :
    k0_pay1 (iblk m c 0 t) (iblk m c 1 t) (iblk m c 2 t) (ix2 b n)
      = entry (m ((c : Thread nD τ).loc main_arg0)) (m ((c : Thread nD τ).loc main_arg1)) (m ((c : Thread nD τ).loc main_arg2)) b
        ⟨1024 * t.val + n.val, col_lt t n⟩ := by
  rw [pay_apply]
  simp only [read_c, read_w, read_b]
  unfold entry
  rfl

theorem final (c : Dev nD) :
    (dats m 0 c).arrAt 3 cfg0.N
      = vectors (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨u, rfl⟩ : ∃ u : S16x1024.Idx, u = y := ⟨y, rfl⟩
  have hu : u = ix2 (u 0) (u 1) := by funext a; fin_cases a <;> rfl
  generalize (u 0 : Fin 16) = b at hu
  generalize (u 1 : Fin 1024) = n at hu
  subst hu
  refine (block m c t b n).trans ?_
  refine congrArg (vectors _ _ _) (a₁ := ix2 b ⟨1024 * t.val + n.val, col_lt t n⟩) ?_
  blk_ext [idx t]

end Kernel

section Plain

open Cert.ReferenceModIdeal Cert.ReferenceModIdeal.Gen Cert.ReferenceModIdeal.Read

variable (c : FVec Ideal S16x2048 .f32) (w : FVec Ideal S1x2048x12288 .f32) (bias : FVec Ideal S1x12288 .f32)

theorem silu_apply (i : S16x2048.Idx) : val_main_v0 (F := Ideal) c i = HMul.hMul (α := EReal) (β := EReal) (γ := EReal) (c i) (Ideal.logistic (c i)) := by
  rw [val_main_v0_apply, val_main_call0_v5_apply, val_main_call0_v4_apply, val_main_call0_cst_0_apply,
    val_main_call0_v3_apply, val_main_call0_v2_apply, val_main_call0_cst_apply, val_main_call0_v1_apply, val_main_call0_v0_apply, Up.one_bits]
  rfl

/-- The plain program's output. -/
theorem plain : val_main_v6 (F := Ideal) c w bias = vectors c w bias := by
  funext u
  obtain ⟨b, n, rfl⟩ : ∃ (b : Fin 16) (n : Fin 12288), u = ix2 b n := ⟨u 0, u 1, by funext a; fin_cases a <;> rfl⟩
  rw [val_main_v6_apply, val_main_v2_apply, val_main_v5_apply, val_main_v4_apply, val_main_v3_apply]
  show _ = entry c w bias b n
  unfold entry
  refine congrArg₂ (· + ·) (Finset.sum_congr rfl fun d _ => ?_) (congrArg bias ?_)
  · rw [silu_apply, val_main_v1_apply, show lidx_main_v2 (ix2 b n) d = ix2 b d by funext a; fin_cases a <;> rfl]
    refine congrArg (fun k => c (ix2 b d) * Ideal.logistic (c (ix2 b d)) * w k) ?_
    funext a; refine Fin.ext ?_
    fin_cases a
    · rfl
    · show (d.val * 12288 + n.val) / 12288 % 2048 = d.val; omega
    · show (d.val * 12288 + n.val) % 12288 = n.val; omega
  · funext a; refine Fin.ext ?_
    fin_cases a
    · rfl
    · show n.val % 12288 = n.val; omega

end Plain

theorem algebraic : Cert.algebraic_KernelModIdeal_ReferenceModIdeal := fun m ρ m' ρ' _ hag => by
  refine ⟨fun c => vectors (m ((c.tc : Thread Cert.KernelModIdeal.nD Cert.KernelModIdeal.τ).loc Cert.KernelModIdeal.main_arg0))
      (m ((c.tc : Thread Cert.KernelModIdeal.nD Cert.KernelModIdeal.τ).loc Cert.KernelModIdeal.main_arg1))
      (m ((c.tc : Thread Cert.KernelModIdeal.nD Cert.KernelModIdeal.τ).loc Cert.KernelModIdeal.main_arg2)),
    (θ_run _ _ _).mono (fun _ h c => ⟨(h c).1.trans (final m c), (h c).2⟩) (Cert.KernelModIdeal.Value.run_blocks m ρ),
    (θ_run _ _ _).mono (fun _ h c => ⟨(h c).1.trans ((Cert.ReferenceModIdeal.Read.val_main_v6_eq _ _ _).trans ?_), (h c).2⟩) (Cert.ReferenceModIdeal.Value.run m' ρ')⟩
  obtain ⟨a0, a1, a2⟩ := hag c
  rw [a0, a1, a2]
  exact plain _ _ _

end Cert.Mod

end
-- ==== Proof.Cum.Scan.lean ====
/- The cumulative sum: what the eleven steps of the kernel compute, and the whole output. -/
module

public import proofs.«01_k».proof.Proof.Gen.KernelCumIdeal.Value
public import Idealize.ShloMosaic.Lib.Pipeline.ValueKit
public import Idealize.ShloMosaic.Lib.Pointwise

@[expose] public section

set_option maxRecDepth 16384

noncomputable section

namespace Cert.Cum

open Idealize.ShloMosaic Idealize.ShloMosaic.TcCoe Idealize.ShloMosaic.Pointwise Idealize.ShloMosaic.Pipeline
open Cert.KernelCumIdeal Cert.KernelCumIdeal.Gen Idealize.SL.Sem

/-- The logarithm of the logistic function, in the form that never exponentiates a positive number. -/
def logSigmoid (z : EReal) : EReal := -(max (-z) 0 + Ideal.log1p (Ideal.exp (-max z (-z))))

/-- The sum of the last `k` entries of row `r` up to lane `j`. -/
def window (x : S128x2048.Idx → EReal) (k : ℕ) (r : Fin 128) (j : Fin 2048) : EReal :=
  ∑ s : Fin 2048, if s.val ≤ j.val ∧ j.val < s.val + k then x (ix2 r s) else 0

def windows (x : S128x2048.Idx → EReal) (k : ℕ) (i : S128x2048.Idx) : EReal := window x k (i 0) (i 1)

theorem window_one (x : S128x2048.Idx → EReal) (r : Fin 128) (j : Fin 2048) : window x 1 r j = x (ix2 r j) := by
  unfold window
  rw [Finset.sum_eq_single j]
  · exact if_pos ⟨le_rfl, Nat.lt_succ_self _⟩
  · intro s _ hs
    refine if_neg fun h => hs (Fin.ext ?_)
    omega
  · exact fun h => absurd (Finset.mem_univ j) h

theorem window_near (x : S128x2048.Idx → EReal) (k : ℕ) (r : Fin 128) (j : Fin 2048) (h : j.val < k) :
    window x k r j + 0 = window x (2 * k) r j := by
  rw [add_zero]
  refine Finset.sum_congr rfl fun s _ => ?_
  exact if_congr (by omega) rfl rfl

theorem window_far (x : S128x2048.Idx → EReal) (k : ℕ) (r : Fin 128) (j : Fin 2048) (h : k ≤ j.val) :
    window x k r j + window x k r ⟨j.val - k, by omega⟩ = window x (2 * k) r j := by
  unfold window
  rw [← Finset.sum_add_distrib]
  refine Finset.sum_congr rfl fun s _ => ?_
  dsimp only
  by_cases h1 : s.val ≤ j.val ∧ j.val < s.val + k
  · rw [if_pos h1, if_neg (by omega), if_pos (by omega), add_zero]
  · by_cases h2 : s.val ≤ j.val - k ∧ j.val - k < s.val + k
    · rw [if_neg h1, if_pos h2, if_pos (by omega), zero_add]
    · rw [if_neg h1, if_neg h2, if_neg (by omega), add_zero]

/-- One step: every lane from `d` on adds the entry `d` lanes before it. -/
def step (d : BitVec 32) (y : FVec Ideal S128x2048 .f32) : FVec Ideal S128x2048 .f32 :=
  addf y (select (cmpi .sge (iota .tc S128x2048 32 [1] iota_S128x2048_d1_w32) (broadcast S128x2048 d))
    (dynamicRotate 1 d none y rotates_S128x2048_d1) (broadcast S128x2048 (Scalar.ofBits .f32 0x00000000#32)))

theorem step_apply (d : ℕ) (hd : d < 2048) (y : FVec Ideal S128x2048 .f32) (r : Fin 128) (j : Fin 2048) :
    step (BitVec.ofNat 32 d) y (ix2 r j)
      = HAdd.hAdd (α := EReal) (β := EReal) (γ := EReal) (y (ix2 r j)) (if h : d ≤ j.val then y (ix2 r ⟨j.val - d, by omega⟩) else 0) := by
  have e : (BitVec.ofNat 32 d).toNat = d := by rw [BitVec.toNat_ofNat]; omega
  pointwise [step]
  rw [WordCmp.cmpi_sge_ofNat (by omega) (by omega)]
  refine congrArg (y (ix2 r j) + ·) ?_
  by_cases h : d ≤ j.val
  · rw [dif_pos h, decide_eq_true h]
    refine congrArg y (congrArg (ix2 r) (Fin.ext ?_))
    show (j.val + 2048 - (BitVec.ofNat 32 d).toNat % 2048) % 2048 = j.val - d
    rw [e]
    omega
  · rw [dif_neg h, decide_eq_false h]
    rfl

theorem step_windows (x : S128x2048.Idx → EReal) (d : ℕ) (hd : d < 2048) :
    step (BitVec.ofNat 32 d) (windows x d) = windows x (2 * d) := by
  funext u
  obtain ⟨r, j, rfl⟩ : ∃ (r : Fin 128) (j : Fin 2048), u = ix2 r j := ⟨u 0, u 1, by funext a; fin_cases a <;> rfl⟩
  rw [step_apply d hd]
  by_cases h : d ≤ j.val
  · rw [dif_pos h]
    exact window_far x d r j h
  · rw [dif_neg h]
    exact window_near x d r j (by omega)

/-- The entries before the first step. -/
def entries (a : FVec Ideal S128x2048 .f32) (b : FVec Ideal S128x1 .f32) (i : S128x2048.Idx) : EReal :=
  logSigmoid (HAdd.hAdd (α := EReal) (β := EReal) (γ := EReal) (a i) (b (ix2 (i 0) 0)))

/-- The kernel's entries before the first step. -/
def start (a : FVec Ideal S128x2048 .f32) (b : FVec Ideal S128x1 .f32) : FVec Ideal S128x2048 .f32 :=
  have z : FVec Ideal S128x2048 .f32 := addf (shapeCast S128x2048 a shapeCasts_S128x2048_S128x2048)
    (broadcastTo S128x2048 (shapeCast S128x1 b shapeCasts_S128x1_S128x1) broadcasts_S128x1_S128x2048)
  have o : FVec Ideal S128x2048 .f32 := broadcast S128x2048 (Scalar.ofBits .f32 0x00000000#32)
  subf o (addf (maximumf (subf o z) o) (log1p (exp (subf o (absf z)))))

theorem start_eq (a : FVec Ideal S128x2048 .f32) (b : FVec Ideal S128x1 .f32) : start a b = windows (entries a b) 1 := by
  funext u
  obtain ⟨r, j, rfl⟩ : ∃ (r : Fin 128) (j : Fin 2048), u = ix2 r j := ⟨u 0, u 1, by funext a; fin_cases a <;> rfl⟩
  refine Eq.trans ?_ (window_one _ r j).symm
  show _ = logSigmoid (HAdd.hAdd (α := EReal) (β := EReal) (γ := EReal) (a (ix2 r j)) (b (ix2 r 0)))
  unfold logSigmoid
  pointwise [start]
  rw [zero_sub, zero_sub, zero_sub]
  rfl

theorem pay_steps (a : FVec Ideal S128x2048 .f32) (b : FVec Ideal S128x1 .f32) :
    k0_pay1 (F := Ideal) (k0_pay7 (F := Ideal) a b) (k0_pay5 (F := Ideal) (k0_pay7 (F := Ideal) a b) (k0_pay2 a b) k0_pay3 (k0_pay4 a b)) k0_pay6
      = step 1024#32 (step 512#32 (step 256#32 (step 128#32 (step 64#32 (step 32#32 (step 16#32 (step 8#32
          (step 4#32 (step 2#32 (step 1#32 (start a b))))))))))) := rfl

/-- After the eleven steps every lane holds the sum of all entries up to it. -/
theorem pay_eq (a : FVec Ideal S128x2048 .f32) (b : FVec Ideal S128x1 .f32) :
    k0_pay1 (F := Ideal) (k0_pay7 (F := Ideal) a b) (k0_pay5 (F := Ideal) (k0_pay7 (F := Ideal) a b) (k0_pay2 a b) k0_pay3 (k0_pay4 a b)) k0_pay6 = windows (entries a b) 2048 := by
  rw [pay_steps, start_eq, step_windows _ 1 (by omega), step_windows _ 2 (by omega), step_windows _ 4 (by omega), step_windows _ 8 (by omega),
    step_windows _ 16 (by omega), step_windows _ 32 (by omega), step_windows _ 64 (by omega), step_windows _ 128 (by omega),
    step_windows _ 256 (by omega), step_windows _ 512 (by omega), step_windows _ 1024 (by omega)]

variable (m : (ℓ : Loc nD τ sig) → Buf (Elt Ideal) ℓ)

/-- The sum of the logarithms up to position `t` of sequence `r / 8` and head `r % 8`. -/
def cumAt (fl : S32768x128.Idx → EReal) (bias : S1x8.Idx → EReal) (r : Fin 128) (t : Fin 2048) : EReal :=
  ∑ s : Fin 2048, if s.val ≤ t.val then
    logSigmoid (fl (ix2 ⟨2048 * (r.val / 8) + s.val, by omega⟩ ⟨r.val % 8, by omega⟩) + bias (ix2 0 ⟨r.val % 8, by omega⟩)) else 0

def cum (fl : S32768x128.Idx → EReal) (bias : S1x8.Idx → EReal) (i : S128x2048.Idx) : EReal := cumAt fl bias (i 0) (i 1)

theorem idx : ∀ t : Fin cfg0.N, win0_0.index t = ![0, 0] ∧ win0_1.index t = ![0, 0] ∧ win0_2.index t = ![0, 0] :=
  (by decide +kernel : ∀ t : Fin grid0.N, _)

theorem read_f (c : Dev nD) (t : Fin cfg0.N) (r : Fin 128) (s : Fin 2048) :
    iblk m c 0 t (ix2 r s)
      = m ((c : Thread nD τ).loc main_arg0) (ix2 ⟨2048 * (r.val / 8) + s.val, by omega⟩ ⟨r.val % 8, by omega⟩) := by
  blk_simp [iblk, idx t]
  entry_read
  pointwise []
  blk_ext [idx t]

theorem read_b (c : Dev nD) (t : Fin cfg0.N) (r : Fin 128) :
    iblk m c 1 t (ix2 r 0) = m ((c : Thread nD τ).loc main_arg1) (ix2 0 ⟨r.val % 8, by omega⟩) := by
  blk_simp [iblk, idx t]
  entry_read
  pointwise []
  refine congrArg _ (congrArg (ix2 0) (Fin.ext (congrArg (· % 8) ?_)))
  blk_simp [idx t]

theorem block (c : Dev nD) (t : Fin cfg0.N) (r : Fin 128) (j : Fin 2048) :
    window (entries (iblk m c 0 t) (iblk m c 1 t)) 2048 r j
      = cumAt (m ((c : Thread nD τ).loc main_arg0)) (m ((c : Thread nD τ).loc main_arg1)) r j := by
  unfold window cumAt
  refine Finset.sum_congr rfl fun s _ => ?_
  refine if_congr (by omega) ?_ rfl
  show logSigmoid (HAdd.hAdd (α := EReal) (β := EReal) (γ := EReal) (iblk m c 0 t (ix2 r s)) (iblk m c 1 t (ix2 r 0))) = _
  rw [read_f, read_b]

theorem final (c : Dev nD) :
    (dats m 0 c).arrAt 2 cfg0.N = cum (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨u, rfl⟩ : ∃ u : S128x2048.Idx, u = y := ⟨y, rfl⟩
  have hu : u = ix2 (u 0) (u 1) := by funext a; fin_cases a <;> rfl
  generalize (u 0 : Fin 128) = r at hu
  generalize (u 1 : Fin 2048) = n at hu
  subst hu
  refine (congrFun (pay_eq _ _) _).trans ?_
  refine (block m c t r n).trans ?_
  refine congrArg (cum _ _) (a₁ := ix2 r n) ?_
  blk_ext [idx t]

end Cert.Cum

end
-- ==== Proof.Cum.Equation.lean ====
/- The cumulative sum's equation: the kernel and the plain program end with equal outputs. -/
module

public import proofs.«01_k».proof.Defs
public import proofs.«01_k».proof.Proof.Cum.Scan
public import proofs.«01_k».proof.Proof.Gen.ReferenceCumIdeal.Read

@[expose] public section

set_option maxRecDepth 16384

noncomputable section

namespace Cert.Cum

open Idealize.ShloMosaic Idealize.ShloMosaic.TcCoe Idealize.ShloMosaic.Pointwise Idealize.SL.Sem
open Cert.ReferenceCumIdeal Cert.ReferenceCumIdeal.Gen Cert.ReferenceCumIdeal.Read

theorem zero_bits : FloatOps.ofBits (F := Ideal) .f32 0x00000000#32 = (0 : EReal) := by
  show Ideal.ofBits .f32 0x00000000#32 = _
  simp [Ideal.ofBits, Ideal.ieee]

/-- The form that the plain program computes: it takes the distance of `-z` from zero. -/
theorem logSigmoid_dist (z : EReal) : -(max (-z) 0 + Ideal.log1p (Ideal.exp (-max (-z - 0) (-(-z - 0))))) = logSigmoid z := by
  rw [sub_zero, neg_neg, max_comm (-z) z]
  rfl

variable (fl : FVec Ideal S32768x128 .f32) (bias : FVec Ideal S1x8 .f32)

/-- The sum of a logit and its bias. -/
def logit (b : Fin 16) (s : Fin 2048) (h : Fin 8) : EReal :=
  HAdd.hAdd (α := EReal) (β := EReal) (γ := EReal) (fl (ix2 ⟨2048 * b.val + s.val, by omega⟩ ⟨h.val, by omega⟩)) (bias (ix2 0 h))

theorem logit_apply (b : Fin 16) (s : Fin 2048) (h : Fin 8) : val_main_v5 (F := Ideal) fl bias (ix3 b s h) = logit fl bias b s h := by
  rw [val_main_v5_apply, val_main_v1_apply, val_main_v0_apply, val_main_v4_apply, val_main_v3_apply, val_main_v2_apply]
  refine congrArg₂ (fun i k => HAdd.hAdd (α := EReal) (β := EReal) (γ := EReal) (fl i) (bias k)) ?_ ?_
  · funext a; refine Fin.ext ?_
    fin_cases a
    · show ((b.val * 2048 + s.val) * 8 + h.val) / 8 = 2048 * b.val + s.val; omega
    · show ((b.val * 2048 + s.val) * 8 + h.val) % 8 = h.val; omega
  · funext a; refine Fin.ext ?_
    fin_cases a
    · rfl
    · show h.val % 8 = h.val; omega

theorem log_apply (b : Fin 16) (s : Fin 2048) (h : Fin 8) :
    val_main_v6 (F := Ideal) fl bias (ix3 b s h) = logSigmoid (logit fl bias b s h) := by
  rw [val_main_v6_apply, val_main_call0_v1_apply, val_main_call0_call0_v4_apply, val_main_call0_call0_v11_apply, val_main_call0_call0_v10_apply,
    val_main_call0_call0_v9_apply, val_main_call0_call0_v8_apply, val_main_call0_call0_v7_apply, val_main_call0_call0_v1_apply,
    val_main_call0_call0_v3_apply, val_main_call0_call0_v2_apply, val_main_call0_call0_v0_apply, val_main_call0_v0_apply,
    val_main_call0_call0_cst_apply, logit_apply, zero_bits]
  refine Eq.trans ?_ (logSigmoid_dist _)
  have e (x : EReal) : FloatOps.cmpf (F := Ideal) (φ := .f32) .une x x = 0#1 := by
    show Ideal.cmp .une x x = 0#1
    simp [Ideal.cmp]
  exact congrArg (fun p => FloatOps.hostNegf (F := Ideal) (φ := .f32) (Scalar.select p _ _)) (e _)

theorem mask_apply (t s : Fin 2048) : val_main_v13 (F := Ideal) (ix2 t s) = BitVec.ofBool (decide (s.val ≤ t.val)) := by
  rw [val_main_v13_apply, val_main_v11_apply, val_main_v12_apply, val_main_v9_apply, val_main_v10_apply, val_main_v8_apply, val_main_v8_apply]
  exact WordCmp.cmpi_sge_ofNat (a := t.val) (b := s.val) (by omega) (by omega)

theorem term_apply (b : Fin 16) (h : Fin 8) (t s : Fin 2048) :
    val_main_v15 (F := Ideal) fl bias (ix4 b h t s) = if s.val ≤ t.val then logSigmoid (logit fl bias b s h) else 0 := by
  rw [val_main_v15_apply, val_main_call1_v1_apply, val_main_call1_v2_apply, val_main_v14_apply, val_main_v7_apply, val_main_call1_v3_apply,
    val_main_call1_v0_apply, val_main_cst_apply, zero_bits, show idx_main_call1_v1 (ix4 b h t s) = ix2 t s by funext a; fin_cases a <;> rfl,
    mask_apply, show idx_main_v7 (idx_main_v14 (idx_main_call1_v2 (ix4 b h t s))) = ix3 b s h by funext a; fin_cases a <;> rfl, log_apply]
  by_cases hst : s.val ≤ t.val
  · rw [if_pos hst, decide_eq_true hst]; rfl
  · rw [if_neg hst, decide_eq_false hst]; rfl

/-- The plain program's output. -/
theorem plain : val_main_v17 (F := Ideal) fl bias = cum fl bias := by
  funext u
  obtain ⟨r, t, rfl⟩ : ∃ (r : Fin 128) (t : Fin 2048), u = ix2 r t := ⟨u 0, u 1, by funext a; fin_cases a <;> rfl⟩
  have e : idx_main_v17 (ix2 r t) = ix3 (⟨r.val / 8, by omega⟩ : Fin 16) (⟨r.val % 8, by omega⟩ : Fin 8) t := by
    funext a; refine Fin.ext ?_
    fin_cases a
    · show (r.val * 2048 + t.val) / 16384 = r.val / 8; omega
    · show (r.val * 2048 + t.val) / 2048 % 8 = r.val % 8; omega
    · show (r.val * 2048 + t.val) % 2048 = t.val; omega
  rw [val_main_v17_apply, e, val_main_v16_apply, val_main_cst_0_apply]
  show _ = cumAt fl bias r t
  unfold cumAt
  refine (congrArg₂ (· + ·) zero_bits (Finset.sum_congr rfl fun s _ => ?_)).trans (zero_add _)
  rw [show ∀ (b : Fin 16) (h : Fin 8), idx_main_v16 (ix3 b h t) s = ix4 b h t s from fun b h => by funext a; fin_cases a <;> rfl]
  exact term_apply fl bias _ _ t s

theorem algebraic : Cert.algebraic_KernelCumIdeal_ReferenceCumIdeal := fun m ρ m' ρ' _ hag => by
  refine ⟨fun c => cum (m ((c.tc : Thread Cert.KernelCumIdeal.nD Cert.KernelCumIdeal.τ).loc Cert.KernelCumIdeal.main_arg0))
      (m ((c.tc : Thread Cert.KernelCumIdeal.nD Cert.KernelCumIdeal.τ).loc Cert.KernelCumIdeal.main_arg1)),
    (θ_run _ _ _).mono (fun _ h c => ⟨(h c).1.trans (final m c), (h c).2⟩) (Cert.KernelCumIdeal.Value.run_blocks m ρ),
    (θ_run _ _ _).mono (fun _ h c => ⟨(h c).1.trans ((val_main_v17_eq _ _).trans ?_), (h c).2⟩) (Cert.ReferenceCumIdeal.Value.run m' ρ')⟩
  obtain ⟨a0, a1⟩ := hag c
  rw [a0, a1]
  exact plain _ _

end Cert.Cum

end
-- ==== Proof.lean ====
/- The claims, each from its module: the frames, the idealisations, and the equation of each call. -/
module

public import proofs.«01_k».proof.Defs
public import proofs.«01_k».proof.Proof.Gen.Kernel.Frame
public import proofs.«01_k».proof.Proof.Gen.KernelIdeal.Frame
public import proofs.«01_k».proof.Proof.Gen.KernelUp.Frame
public import proofs.«01_k».proof.Proof.Gen.KernelUpIdeal.Frame
public import proofs.«01_k».proof.Proof.Gen.KernelDown.Frame
public import proofs.«01_k».proof.Proof.Gen.KernelDownIdeal.Frame
public import proofs.«01_k».proof.Proof.Gen.KernelOut.Frame
public import proofs.«01_k».proof.Proof.Gen.KernelOutIdeal.Frame
public import proofs.«01_k».proof.Proof.Gen.KernelIn.Frame
public import proofs.«01_k».proof.Proof.Gen.KernelInIdeal.Frame
public import proofs.«01_k».proof.Proof.Gen.KernelMod.Frame
public import proofs.«01_k».proof.Proof.Gen.KernelModIdeal.Frame
public import proofs.«01_k».proof.Proof.Gen.KernelCum.Frame
public import proofs.«01_k».proof.Proof.Gen.KernelCumIdeal.Frame
public import proofs.«01_k».proof.Proof.Gen.KernelIdeal.Value
public import proofs.«01_k».proof.Proof.Gen.KernelUpIdeal.Value
public import proofs.«01_k».proof.Proof.Gen.KernelDownIdeal.Value
public import proofs.«01_k».proof.Proof.Gen.KernelOutIdeal.Value
public import proofs.«01_k».proof.Proof.Gen.KernelInIdeal.Value
public import proofs.«01_k».proof.Proof.Gen.KernelModIdeal.Value
public import proofs.«01_k».proof.Proof.Gen.KernelCumIdeal.Value
public import proofs.«01_k».proof.Proof.Gen.ReferenceIdeal.Run
public import proofs.«01_k».proof.Proof.Gen.ReferenceIdeal.Read
public import proofs.«01_k».proof.Proof.Gen.ReferenceUpIdeal.Run
public import proofs.«01_k».proof.Proof.Gen.ReferenceUpIdeal.Read
public import proofs.«01_k».proof.Proof.Gen.ReferenceDownIdeal.Run
public import proofs.«01_k».proof.Proof.Gen.ReferenceDownIdeal.Read
public import proofs.«01_k».proof.Proof.Gen.ReferenceOutIdeal.Run
public import proofs.«01_k».proof.Proof.Gen.ReferenceOutIdeal.Read
public import proofs.«01_k».proof.Proof.Gen.ReferenceInIdeal.Run
public import proofs.«01_k».proof.Proof.Gen.ReferenceInIdeal.Read
public import proofs.«01_k».proof.Proof.Gen.ReferenceModIdeal.Run
public import proofs.«01_k».proof.Proof.Gen.ReferenceModIdeal.Read
public import proofs.«01_k».proof.Proof.Gen.ReferenceCumIdeal.Run
public import proofs.«01_k».proof.Proof.Gen.ReferenceCumIdeal.Read
public import proofs.«01_k».proof.Proof.Attn.Equation
public import proofs.«01_k».proof.Proof.Ffn.UpEquation
public import proofs.«01_k».proof.Proof.Ffn.DownEquation
public import proofs.«01_k».proof.Proof.Out.Equation
public import proofs.«01_k».proof.Proof.In.Equation
public import proofs.«01_k».proof.Proof.Mod.Equation
public import proofs.«01_k».proof.Proof.Cum.Equation

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.KernelUp.Gen.facts,
    Cert.KernelUpIdeal.Gen.facts,
    Cert.ReferenceUpIdeal.Gen.facts,
    Cert.KernelDown.Gen.facts,
    Cert.KernelDownIdeal.Gen.facts,
    Cert.ReferenceDownIdeal.Gen.facts,
    Cert.KernelOut.Gen.facts,
    Cert.KernelOutIdeal.Gen.facts,
    Cert.ReferenceOutIdeal.Gen.facts,
    Cert.KernelIn.Gen.facts,
    Cert.KernelInIdeal.Gen.facts,
    Cert.ReferenceInIdeal.Gen.facts,
    Cert.KernelMod.Gen.facts,
    Cert.KernelModIdeal.Gen.facts,
    Cert.ReferenceModIdeal.Gen.facts,
    Cert.KernelCum.Gen.facts,
    Cert.KernelCumIdeal.Gen.facts,
    Cert.ReferenceCumIdeal.Gen.facts,
    Cert.Pre_finite_logits.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems (by decide) r.2⟩) (Cert.ReferenceIdeal.Value.run m ρ),
    fun m ρ _ => (θ_run _ _ _).mono (fun r h => ⟨fun c => (h c).2, sem_eq_zero_of_no_sems (by decide) r.2⟩) (Cert.ReferenceIdeal.Value.run m ρ),
    fun m ρ _ => Cert.KernelUp.Gen.frame m ρ,
    fun m ρ _ => Cert.KernelUpIdeal.Gen.frame m ρ,
    fun m ρ _ => (θ_run _ _ _).mono (fun r h => ⟨fun c => (h c).2, sem_eq_zero_of_no_sems (by decide) r.2⟩) (Cert.ReferenceUpIdeal.Value.run m ρ),
    fun m ρ _ => Cert.KernelDown.Gen.frame m ρ,
    fun m ρ _ => Cert.KernelDownIdeal.Gen.frame m ρ,
    fun m ρ _ => (θ_run _ _ _).mono (fun r h => ⟨fun c => (h c).2, sem_eq_zero_of_no_sems (by decide) r.2⟩) (Cert.ReferenceDownIdeal.Value.run m ρ),
    fun m ρ _ => Cert.KernelOut.Gen.frame m ρ,
    fun m ρ _ => Cert.KernelOutIdeal.Gen.frame m ρ,
    fun m ρ _ => (θ_run _ _ _).mono (fun r h => ⟨fun c => (h c).2.2, sem_eq_zero_of_no_sems (by decide) r.2⟩) (Cert.ReferenceOutIdeal.Value.run m ρ),
    fun m ρ _ => Cert.KernelIn.Gen.frame m ρ,
    fun m ρ _ => Cert.KernelInIdeal.Gen.frame m ρ,
    fun m ρ _ => (θ_run _ _ _).mono (fun r h => ⟨fun c => (h c).2.2.2.2.2.2, sem_eq_zero_of_no_sems (by decide) r.2⟩) (Cert.ReferenceInIdeal.Value.run m ρ),
    fun m ρ _ => Cert.KernelMod.Gen.frame m ρ,
    fun m ρ _ => Cert.KernelModIdeal.Gen.frame m ρ,
    fun m ρ _ => (θ_run _ _ _).mono (fun r h => ⟨fun c => (h c).2, sem_eq_zero_of_no_sems (by decide) r.2⟩) (Cert.ReferenceModIdeal.Value.run m ρ),
    fun m ρ _ => Cert.KernelCum.Gen.frame m ρ,
    fun m ρ _ => Cert.KernelCumIdeal.Gen.frame m ρ,
    fun m ρ _ => (θ_run _ _ _).mono (fun r h => ⟨fun c => (h c).2, sem_eq_zero_of_no_sems (by decide) r.2⟩) (Cert.ReferenceCumIdeal.Value.run m ρ),
    IdealRules.named_const.statement Cert.KernelIdeal.κ "log2e" .f32 0x3FB8AA3B#32 (((Real.log 2)⁻¹ : ℝ) : EReal) rfl,
    Cert.Attn.algebraic,
    trivial,
    Cert.Up.algebraic,
    trivial,
    Cert.Down.algebraic,
    trivial,
    Cert.Out.algebraic,
    IdealRules.named_const.statement Cert.KernelInIdeal.κ "q_scale" .f32 0x3E0293EE#32 (((Real.sqrt 128)⁻¹ * (Real.log 2)⁻¹ : ℝ) : EReal) rfl,
    Cert.InProj.algebraic,
    trivial,
    Cert.Mod.algebraic,
    trivial,
    Cert.Cum.algebraic⟩

end Cert.Proof

end
